-- ==== Defs.lean ====
def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3)
      ∧ r.2.mem ((c.tc : Thread Cert.DwIn.nD Cert.DwIn.τ).loc Cert.DwIn.main_arg4) = m ((c.tc : Thread Cert.DwIn.nD Cert.DwIn.τ).loc Cert.DwIn.main_arg4)
      ∧ r.2.mem ((c.tc : Thread Cert.DwIn.nD Cert.DwIn.τ).loc Cert.DwIn.main_arg5) = m ((c.tc : Thread Cert.DwIn.nD Cert.DwIn.τ).loc Cert.DwIn.main_arg5))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
      ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3)
      ∧ r.2.mem ((c.tc : Thread Cert.DwInRefIdeal.nD Cert.DwInRefIdeal.τ).loc Cert.DwInRefIdeal.main_arg4) = m ((c.tc : Thread Cert.DwInRefIdeal.nD Cert.DwInRefIdeal.τ).loc Cert.DwInRefIdeal.main_arg4)
      ∧ r.2.mem ((c.tc : Thread Cert.DwInRefIdeal.nD Cert.DwInRefIdeal.τ).loc Cert.DwInRefIdeal.main_arg5) = m ((c.tc : Thread Cert.DwInRefIdeal.nD Cert.DwInRefIdeal.τ).loc Cert.DwInRefIdeal.main_arg5))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6)
      ∧ r.2.mem ((c.tc : Thread Cert.Dx.nD Cert.Dx.τ).loc Cert.Dx.main_arg7) = m ((c.tc : Thread Cert.Dx.nD Cert.Dx.τ).loc Cert.Dx.main_arg7))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6)
      ∧ r.2.mem ((c.tc : Thread Cert.DxRefIdeal.nD Cert.DxRefIdeal.τ).loc Cert.DxRefIdeal.main_arg7) = m ((c.tc : Thread Cert.DxRefIdeal.nD Cert.DxRefIdeal.τ).loc Cert.DxRefIdeal.main_arg7))
      ∧ r.2.sem = fun _ => 0)

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v0_0)) (v1 : (c : Dev Cert.DwOutIdeal.nD) → Buf (Elt Ideal) ((c.tc : Thread Cert.DwOutIdeal.nD Cert.DwOutIdeal.τ).loc Cert.DwOutIdeal.main_v0_1)) (v2 : (c : Dev Cert.DwOutIdeal.nD) → Buf (Elt Ideal) ((c.tc : Thread Cert.DwOutIdeal.nD Cert.DwOutIdeal.τ).loc Cert.DwOutIdeal.main_v0_2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0_0) = v0 c
          ∧ r.2.mem ((c.tc : Thread Cert.DwOutIdeal.nD Cert.DwOutIdeal.τ).loc Cert.DwOutIdeal.main_v0_1) = v1 c
          ∧ r.2.mem ((c.tc : Thread Cert.DwOutIdeal.nD Cert.DwOutIdeal.τ).loc Cert.DwOutIdeal.main_v0_2) = v2 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v0_0) = v0 c
          ∧ r.2.mem ((c.tc : Thread Cert.DwOutRefIdeal.nD Cert.DwOutRefIdeal.τ).loc Cert.DwOutRefIdeal.main_v0_1) = v1 c
          ∧ r.2.mem ((c.tc : Thread Cert.DwOutRefIdeal.nD Cert.DwOutRefIdeal.τ).loc Cert.DwOutRefIdeal.main_v0_2) = v2 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)
      ∧ m' ((c.tc : Thread Cert.DwInRefIdeal.nD Cert.DwInRefIdeal.τ).loc Cert.DwInRefIdeal.main_arg4) = m ((c.tc : Thread Cert.DwInIdeal.nD Cert.DwInIdeal.τ).loc Cert.DwInIdeal.main_arg4)
      ∧ m' ((c.tc : Thread Cert.DwInRefIdeal.nD Cert.DwInRefIdeal.τ).loc Cert.DwInRefIdeal.main_arg5) = m ((c.tc : Thread Cert.DwInIdeal.nD Cert.DwInIdeal.τ).loc Cert.DwInIdeal.main_arg5)) →
    ∃ (v0 : (c : Dev Cert.DwInIdeal.nD) → Buf (Elt Ideal) ((c.tc : Thread Cert.DwInIdeal.nD Cert.DwInIdeal.τ).loc Cert.DwInIdeal.main_v0_0)) (v1 : (c : Dev Cert.DwInIdeal.nD) → Buf (Elt Ideal) ((c.tc : Thread Cert.DwInIdeal.nD Cert.DwInIdeal.τ).loc Cert.DwInIdeal.main_v0_1)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0_0) = v0 c
          ∧ r.2.mem ((c.tc : Thread Cert.DwInIdeal.nD Cert.DwInIdeal.τ).loc Cert.DwInIdeal.main_v0_1) = v1 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
          ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
          ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v0_0) = v0 c
          ∧ r.2.mem ((c.tc : Thread Cert.DwInRefIdeal.nD Cert.DwInRefIdeal.τ).loc Cert.DwInRefIdeal.main_v0_1) = v1 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3)
          ∧ r.2.mem ((c.tc : Thread Cert.DwInRefIdeal.nD Cert.DwInRefIdeal.τ).loc Cert.DwInRefIdeal.main_arg4) = m' ((c.tc : Thread Cert.DwInRefIdeal.nD Cert.DwInRefIdeal.τ).loc Cert.DwInRefIdeal.main_arg4)
          ∧ r.2.mem ((c.tc : Thread Cert.DwInRefIdeal.nD Cert.DwInRefIdeal.τ).loc Cert.DwInRefIdeal.main_arg5) = m' ((c.tc : Thread Cert.DwInRefIdeal.nD Cert.DwInRefIdeal.τ).loc Cert.DwInRefIdeal.main_arg5))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)
      ∧ m' ((c.tc : Thread Cert.DxRefIdeal.nD Cert.DxRefIdeal.τ).loc Cert.DxRefIdeal.main_arg7) = m ((c.tc : Thread Cert.DxIdeal.nD Cert.DxIdeal.τ).loc Cert.DxIdeal.main_arg7)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
          ∧ r.2.mem ((c.tc : Thread Cert.DxIdeal.nD Cert.DxIdeal.τ).loc Cert.DxIdeal.main_arg7) = m ((c.tc : Thread Cert.DxIdeal.nD Cert.DxIdeal.τ).loc Cert.DxIdeal.main_arg7))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v0) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6)
          ∧ r.2.mem ((c.tc : Thread Cert.DxRefIdeal.nD Cert.DxRefIdeal.τ).loc Cert.DxRefIdeal.main_arg7) = m' ((c.tc : Thread Cert.DxRefIdeal.nD Cert.DxRefIdeal.τ).loc Cert.DxRefIdeal.main_arg7))

def Claim : Prop :=
  ∃ (hDwOut : Cert.DwOut.Facts) (hDwOutIdeal : Cert.DwOutIdeal.Facts) (hDwOutRefIdeal : Cert.DwOutRefIdeal.Facts) (hDwIn : Cert.DwIn.Facts) (hDwInIdeal : Cert.DwInIdeal.Facts) (hDwInRefIdeal : Cert.DwInRefIdeal.Facts) (hDx : Cert.Dx.Facts) (hDxIdeal : Cert.DxIdeal.Facts) (hDxRefIdeal : Cert.DxRefIdeal.Facts),
    quiescent_DwOut (hDwOut := hDwOut)
    ∧ quiescent_DwOutIdeal (hDwOutIdeal := hDwOutIdeal)
    ∧ quiescent_DwOutRefIdeal (hDwOutRefIdeal := hDwOutRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Dx (hDx := hDx)
    ∧ quiescent_DxIdeal (hDxIdeal := hDxIdeal)
    ∧ quiescent_DxRefIdeal (hDxRefIdeal := hDxRefIdeal)
    ∧ preserves_DwOut_DwOutIdeal
    ∧ algebraic_DwOutIdeal_DwOutRefIdeal (hDwOutIdeal := hDwOutIdeal) (hDwOutRefIdeal := hDwOutRefIdeal)
    ∧ preserves_DwIn_DwInIdeal
    ∧ algebraic_DwInIdeal_DwInRefIdeal (hDwInIdeal := hDwInIdeal) (hDwInRefIdeal := hDwInRefIdeal)
    ∧ preserves_Dx_DxIdeal
    ∧ algebraic_DxIdeal_DxRefIdeal (hDxIdeal := hDxIdeal) (hDxRefIdeal := hDxRefIdeal)
-- ==== DwOut.lean ====
abbrev S7680x2048 : Shape := ⟨2, ![7680, 2048]⟩
abbrev S240x2048 : Shape := ⟨2, ![240, 2048]⟩
abbrev S7680x4096 : Shape := ⟨2, ![7680, 4096]⟩
abbrev S2048x4096 : Shape := ⟨2, ![2048, 4096]⟩
abbrev S240x4096 : Shape := ⟨2, ![240, 4096]⟩
abbrev S768x2048 : Shape := ⟨2, ![768, 2048]⟩
abbrev S24x2048 : Shape := ⟨2, ![24, 2048]⟩
abbrev S768x1024 : Shape := ⟨2, ![768, 1024]⟩
abbrev S2048x1024 : Shape := ⟨2, ![2048, 1024]⟩
abbrev S24x1024 : Shape := ⟨2, ![24, 1024]⟩
abbrev S1x2048 : Shape := ⟨2, ![1, 2048]⟩
abbrev S32x2048 : Shape := ⟨2, ![32, 2048]⟩
abbrev S32x1024 : Shape := ⟨2, ![32, 1024]⟩
abbrev S1024 : Shape := ⟨1, ![1024]⟩
abbrev S1x1024 : Shape := ⟨2, ![1, 1024]⟩
abbrev S8x1024 : Shape := ⟨2, ![8, 1024]⟩

abbrev nBuf : Space → Nat
  | .hbm => 6
  | .vmem => 14
  | .smem => 0
  | _ => 0

abbrev bufTy : (tb : Table) → Fin (tcTables nBuf tb) → BufTy
  | .hbm, ⟨0, _⟩ => ⟨S7680x2048, .fp8e4m3⟩
  | .hbm, ⟨1, _⟩ => ⟨S240x2048, .f32⟩
  | .hbm, ⟨2, _⟩ => ⟨S7680x4096, .bf16⟩
  | .hbm, ⟨3, _⟩ => ⟨S2048x4096, .f32⟩
  | .hbm, ⟨4, _⟩ => ⟨S7680x4096, .fp8e5m2⟩
  | .hbm, ⟨5, _⟩ => ⟨S240x4096, .f32⟩
  | .local _ .vmem, ⟨0, _⟩ => ⟨S768x2048, .fp8e4m3⟩
  | .local _ .vmem, ⟨1, _⟩ => ⟨S768x2048, .fp8e4m3⟩
  | .local _ .vmem, ⟨2, _⟩ => ⟨S24x2048, .f32⟩
  | .local _ .vmem, ⟨3, _⟩ => ⟨S24x2048, .f32⟩
  | .local _ .vmem, ⟨4, _⟩ => ⟨S768x1024, .bf16⟩
  | .local _ .vmem, ⟨5, _⟩ => ⟨S768x1024, .bf16⟩
  | .local _ .vmem, ⟨6, _⟩ => ⟨S2048x1024, .f32⟩
  | .local _ .vmem, ⟨7, _⟩ => ⟨S2048x1024, .f32⟩
  | .local _ .vmem, ⟨8, _⟩ => ⟨S768x1024, .fp8e5m2⟩
  | .local _ .vmem, ⟨9, _⟩ => ⟨S768x1024, .fp8e5m2⟩
  | .local _ .vmem, ⟨10, _⟩ => ⟨S24x1024, .f32⟩
  | .local _ .vmem, ⟨11, _⟩ => ⟨S24x1024, .f32⟩
  | .local _ .vmem, ⟨12, _⟩ => ⟨S768x2048, .bf16⟩
  | .local _ .vmem, ⟨13, _⟩ => ⟨S768x1024, .bf16⟩
  | _, _ => ⟨S7680x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S24x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x1024 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S24x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DwOutRefIdeal.lean ====
abbrev S7680x2048 : Shape := ⟨2, ![7680, 2048]⟩
abbrev S240x2048 : Shape := ⟨2, ![240, 2048]⟩
abbrev S7680x4096 : Shape := ⟨2, ![7680, 4096]⟩
abbrev S2048x4096 : Shape := ⟨2, ![2048, 4096]⟩
abbrev S240x4096 : Shape := ⟨2, ![240, 4096]⟩
abbrev S240x32x4096 : Shape := ⟨3, ![240, 32, 4096]⟩
abbrev S240x1x4096 : Shape := ⟨3, ![240, 1, 4096]⟩
abbrev S240x1x2048 : Shape := ⟨3, ![240, 1, 2048]⟩
abbrev S240x32x2048 : Shape := ⟨3, ![240, 32, 2048]⟩

abbrev nBuf : Space → Nat
  | .hbm => 6
  | .vmem => 6
  | .smem => 0
  | _ => 0

abbrev bufTy : (tb : Table) → Fin (tcTables nBuf tb) → BufTy
  | .hbm, ⟨0, _⟩ => ⟨S7680x2048, .fp8e4m3⟩
  | .hbm, ⟨1, _⟩ => ⟨S240x2048, .f32⟩
  | .hbm, ⟨2, _⟩ => ⟨S7680x4096, .bf16⟩
  | .hbm, ⟨3, _⟩ => ⟨S2048x4096, .f32⟩
  | .hbm, ⟨4, _⟩ => ⟨S7680x4096, .fp8e5m2⟩
  | .hbm, ⟨5, _⟩ => ⟨S240x4096, .f32⟩
  | .local _ .vmem, ⟨0, _⟩ => ⟨S7680x2048, .fp8e4m3⟩
  | .local _ .vmem, ⟨1, _⟩ => ⟨S240x2048, .f32⟩
  | .local _ .vmem, ⟨2, _⟩ => ⟨S7680x4096, .bf16⟩
  | .local _ .vmem, ⟨3, _⟩ => ⟨S2048x4096, .f32⟩
  | .local _ .vmem, ⟨4, _⟩ => ⟨S7680x4096, .fp8e5m2⟩
  | .local _ .vmem, ⟨5, _⟩ => ⟨S240x4096, .f32⟩
  | _, _ => ⟨S7680x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S7680x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S240x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x4096 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S240x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== DwIn.lean ====
abbrev S7680x4096 : Shape := ⟨2, ![7680, 4096]⟩
abbrev S7680x128 : Shape := ⟨2, ![7680, 128]⟩
abbrev S7680x2048 : Shape := ⟨2, ![7680, 2048]⟩
abbrev S240x2048 : Shape := ⟨2, ![240, 2048]⟩
abbrev S4096x2048 : Shape := ⟨2, ![4096, 2048]⟩
abbrev S768x1024 : Shape := ⟨2, ![768, 1024]⟩
abbrev S768x128 : Shape := ⟨2, ![768, 128]⟩
abbrev S768x2048 : Shape := ⟨2, ![768, 2048]⟩
abbrev S24x2048 : Shape := ⟨2, ![24, 2048]⟩
abbrev S1024x2048 : Shape := ⟨2, ![1024, 2048]⟩
abbrev S1x2048 : Shape := ⟨2, ![1, 2048]⟩
abbrev S32x2048 : Shape := ⟨2, ![32, 2048]⟩
abbrev S32x128 : Shape := ⟨2, ![32, 128]⟩
abbrev S32x128x1 : Shape := ⟨3, ![32, 128, 1]⟩

abbrev nBuf : Space → Nat
  | .hbm => 8
  | .vmem => 19
  | .smem => 0
  | _ => 0

abbrev bufTy : (tb : Table) → Fin (tcTables nBuf tb) → BufTy
  | .hbm, ⟨0, _⟩ => ⟨S7680x4096, .fp8e4m3⟩
  | .hbm, ⟨1, _⟩ => ⟨S7680x128, .f32⟩
  | .hbm, ⟨2, _⟩ => ⟨S7680x2048, .fp8e5m2⟩
  | .hbm, ⟨3, _⟩ => ⟨S240x2048, .f32⟩
  | .hbm, ⟨4, _⟩ => ⟨S7680x2048, .fp8e5m2⟩
  | .hbm, ⟨5, _⟩ => ⟨S240x2048, .f32⟩
  | .hbm, ⟨6, _⟩ => ⟨S4096x2048, .f32⟩
  | .hbm, ⟨7, _⟩ => ⟨S4096x2048, .f32⟩
  | .local _ .vmem, ⟨0, _⟩ => ⟨S768x1024, .fp8e4m3⟩
  | .local _ .vmem, ⟨1, _⟩ => ⟨S768x1024, .fp8e4m3⟩
  | .local _ .vmem, ⟨2, _⟩ => ⟨S768x128, .f32⟩
  | .local _ .vmem, ⟨3, _⟩ => ⟨S768x128, .f32⟩
  | .local _ .vmem, ⟨4, _⟩ => ⟨S768x2048, .fp8e5m2⟩
  | .local _ .vmem, ⟨5, _⟩ => ⟨S768x2048, .fp8e5m2⟩
  | .local _ .vmem, ⟨6, _⟩ => ⟨S24x2048, .f32⟩
  | .local _ .vmem, ⟨7, _⟩ => ⟨S24x2048, .f32⟩
  | .local _ .vmem, ⟨8, _⟩ => ⟨S768x2048, .fp8e5m2⟩
  | .local _ .vmem, ⟨9, _⟩ => ⟨S768x2048, .fp8e5m2⟩
  | .local _ .vmem, ⟨10, _⟩ => ⟨S24x2048, .f32⟩
  | .local _ .vmem, ⟨11, _⟩ => ⟨S24x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .f32⟩
  | .local _ .vmem, ⟨15, _⟩ => ⟨S1024x2048, .f32⟩
  | .local _ .vmem, ⟨16, _⟩ => ⟨S768x1024, .bf16⟩
  | .local _ .vmem, ⟨17, _⟩ => ⟨S768x2048, .bf16⟩
  | .local _ .vmem, ⟨18, _⟩ => ⟨S768x2048, .bf16⟩
  | _, _ => ⟨S7680x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x2048 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S24x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x2048 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S24x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DwInRefIdeal.lean ====
abbrev S7680x4096 : Shape := ⟨2, ![7680, 4096]⟩
abbrev S7680x128 : Shape := ⟨2, ![7680, 128]⟩
abbrev S7680x2048 : Shape := ⟨2, ![7680, 2048]⟩
abbrev S240x2048 : Shape := ⟨2, ![240, 2048]⟩
abbrev S4096x2048 : Shape := ⟨2, ![4096, 2048]⟩
abbrev S7680x128x1 : Shape := ⟨3, ![7680, 128, 1]⟩
abbrev S7680x128x32 : Shape := ⟨3, ![7680, 128, 32]⟩
abbrev S240x1x2048 : Shape := ⟨3, ![240, 1, 2048]⟩
abbrev S240x32x2048 : Shape := ⟨3, ![240, 32, 2048]⟩

abbrev nBuf : Space → Nat
  | .hbm => 8
  | .vmem => 8
  | .smem => 0
  | _ => 0

abbrev bufTy : (tb : Table) → Fin (tcTables nBuf tb) → BufTy
  | .hbm, ⟨0, _⟩ => ⟨S7680x4096, .fp8e4m3⟩
  | .hbm, ⟨1, _⟩ => ⟨S7680x128, .f32⟩
  | .hbm, ⟨2, _⟩ => ⟨S7680x2048, .fp8e5m2⟩
  | .hbm, ⟨3, _⟩ => ⟨S240x2048, .f32⟩
  | .hbm, ⟨4, _⟩ => ⟨S7680x2048, .fp8e5m2⟩
  | .hbm, ⟨5, _⟩ => ⟨S240x2048, .f32⟩
  | .hbm, ⟨6, _⟩ => ⟨S4096x2048, .f32⟩
  | .hbm, ⟨7, _⟩ => ⟨S4096x2048, .f32⟩
  | .local _ .vmem, ⟨0, _⟩ => ⟨S7680x4096, .fp8e4m3⟩
  | .local _ .vmem, ⟨1, _⟩ => ⟨S7680x128, .f32⟩
  | .local _ .vmem, ⟨2, _⟩ => ⟨S7680x2048, .fp8e5m2⟩
  | .local _ .vmem, ⟨3, _⟩ => ⟨S240x2048, .f32⟩
  | .local _ .vmem, ⟨4, _⟩ => ⟨S7680x2048, .fp8e5m2⟩
  | .local _ .vmem, ⟨5, _⟩ => ⟨S240x2048, .f32⟩
  | .local _ .vmem, ⟨6, _⟩ => ⟨S4096x2048, .f32⟩
  | .local _ .vmem, ⟨7, _⟩ => ⟨S4096x2048, .f32⟩
  | _, _ => ⟨S7680x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S7680x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x2048 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S240x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x2048 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S240x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Dx.lean ====
abbrev S7680x2048 : Shape := ⟨2, ![7680, 2048]⟩
abbrev S7680x64 : Shape := ⟨2, ![7680, 64]⟩
abbrev S4096x2048 : Shape := ⟨2, ![4096, 2048]⟩
abbrev S1 : Shape := ⟨1, ![1]⟩
abbrev S7680x4096 : Shape := ⟨2, ![7680, 4096]⟩
abbrev S512x2048 : Shape := ⟨2, ![512, 2048]⟩
abbrev S512x64 : Shape := ⟨2, ![512, 64]⟩
abbrev S512x4096 : Shape := ⟨2, ![512, 4096]⟩
abbrev S32x64 : Shape := ⟨2, ![32, 64]⟩
abbrev S32x128 : Shape := ⟨2, ![32, 128]⟩
abbrev S32x128x1 : Shape := ⟨3, ![32, 128, 1]⟩
abbrev S512x512 : Shape := ⟨2, ![512, 512]⟩

abbrev nBuf : Space → Nat
  | .hbm => 9
  | .vmem => 14
  | .smem => 2
  | _ => 0

abbrev bufTy : (tb : Table) → Fin (tcTables nBuf tb) → BufTy
  | .hbm, ⟨0, _⟩ => ⟨S7680x2048, .fp8e5m2⟩
  | .hbm, ⟨1, _⟩ => ⟨S7680x64, .f32⟩
  | .hbm, ⟨2, _⟩ => ⟨S7680x2048, .fp8e5m2⟩
  | .hbm, ⟨3, _⟩ => ⟨S7680x64, .f32⟩
  | .hbm, ⟨4, _⟩ => ⟨S4096x2048, .fp8e4m3⟩
  | .hbm, ⟨5, _⟩ => ⟨S1, .f32⟩
  | .hbm, ⟨6, _⟩ => ⟨S4096x2048, .fp8e4m3⟩
  | .hbm, ⟨7, _⟩ => ⟨S1, .f32⟩
  | .hbm, ⟨8, _⟩ => ⟨S7680x4096, .bf16⟩
  | .local _ .vmem, ⟨0, _⟩ => ⟨S512x2048, .fp8e5m2⟩
  | .local _ .vmem, ⟨1, _⟩ => ⟨S512x2048, .fp8e5m2⟩
  | .local _ .vmem, ⟨2, _⟩ => ⟨S512x64, .f32⟩
  | .local _ .vmem, ⟨3, _⟩ => ⟨S512x64, .f32⟩
  | .local _ .vmem, ⟨4, _⟩ => ⟨S512x2048, .fp8e5m2⟩
  | .local _ .vmem, ⟨5, _⟩ => ⟨S512x2048, .fp8e5m2⟩
  | .local _ .vmem, ⟨6, _⟩ => ⟨S512x64, .f32⟩
  | .local _ .vmem, ⟨7, _⟩ => ⟨S512x64, .f32⟩
  | .local _ .vmem, ⟨8, _⟩ => ⟨S4096x2048, .fp8e4m3⟩
  | .local _ .vmem, ⟨9, _⟩ => ⟨S4096x2048, .fp8e4m3⟩
  | .local _ .vmem, ⟨10, _⟩ => ⟨S512x4096, .bf16⟩
  | .local _ .vmem, ⟨11, _⟩ => ⟨S512x4096, .bf16⟩
  | .local _ .vmem, ⟨12, _⟩ => ⟨S512x2048, .bf16⟩
  | .local _ .vmem, ⟨13, _⟩ => ⟨S512x2048, .bf16⟩
  | .local _ .smem, ⟨0, _⟩ => ⟨S1, .f32⟩
  | .local _ .smem, ⟨1, _⟩ => ⟨S1, .f32⟩
  | _, _ => ⟨S7680x2048, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![15], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v2 : BitVec 32 := Scalar.muli arg12 c1_i32_4
  let v3 : BitVec 32 := Scalar.addi c0_i32_5 v2
  let c32_i32 : BitVec 32 := 32#32
  let v4 : BitVec 32 := Scalar.muli v3 c32_i32
  v4
def k0_off1 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v2 : BitVec 32 := Scalar.muli arg12 c1_i32_4
  let v3 : BitVec 32 := Scalar.addi c0_i32_5 v2
  let c32_i32 : BitVec 32 := 32#32
  let v4 : BitVec 32 := Scalar.muli v3 c32_i32
  let v5 : BitVec 32 := v4
  let v6 : Index := Scalar.indexCast v5
  let c0 : Index := 0#32
  ![v6.toNat, 0]
def k0_off2 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v2 : BitVec 32 := Scalar.muli arg12 c1_i32_4
  let v3 : BitVec 32 := Scalar.addi c0_i32_5 v2
  let c32_i32 : BitVec 32 := 32#32
  let v4 : BitVec 32 := Scalar.muli v3 c32_i32
  let v5 : BitVec 32 := v4
  let v12 : Index := Scalar.indexCast v5
  let c0_6 : Index := 0#32
  ![v12.toNat, 0]
def k0_off3 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v2 : BitVec 32 := Scalar.muli arg12 c1_i32_4
  let v3 : BitVec 32 := Scalar.addi c0_i32_5 v2
  let c32_i32 : BitVec 32 := 32#32
  let v4 : BitVec 32 := Scalar.muli v3 c32_i32
  let v5 : BitVec 32 := v4
  let v56 : Index := Scalar.indexCast v5
  let c128 : Index := 128#32
  ![v56.toNat, 128]
def k0_off4 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v2 : BitVec 32 := Scalar.muli arg12 c1_i32_4
  let v3 : BitVec 32 := Scalar.addi c0_i32_5 v2
  let c32_i32 : BitVec 32 := 32#32
  let v4 : BitVec 32 := Scalar.muli v3 c32_i32
  let v5 : BitVec 32 := v4
  let v100 : Index := Scalar.indexCast v5
  let c256 : Index := 256#32
  ![v100.toNat, 256]
def k0_off5 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v2 : BitVec 32 := Scalar.muli arg12 c1_i32_4
  let v3 : BitVec 32 := Scalar.addi c0_i32_5 v2
  let c32_i32 : BitVec 32 := 32#32
  let v4 : BitVec 32 := Scalar.muli v3 c32_i32
  let v5 : BitVec 32 := v4
  let v144 : Index := Scalar.indexCast v5
  let c384 : Index := 384#32
  ![v144.toNat, 384]
def k0_off6 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v2 : BitVec 32 := Scalar.muli arg12 c1_i32_4
  let v3 : BitVec 32 := Scalar.addi c0_i32_5 v2
  let c32_i32 : BitVec 32 := 32#32
  let v4 : BitVec 32 := Scalar.muli v3 c32_i32
  let v5 : BitVec 32 := v4
  let v188 : Index := Scalar.indexCast v5
  let c512 : Index := 512#32
  ![v188.toNat, 512]
def k0_off7 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v2 : BitVec 32 := Scalar.muli arg12 c1_i32_4
  let v3 : BitVec 32 := Scalar.addi c0_i32_5 v2
  let c32_i32 : BitVec 32 := 32#32
  let v4 : BitVec 32 := Scalar.muli v3 c32_i32
  let v5 : BitVec 32 := v4
  let v232 : Index := Scalar.indexCast v5
  let c640 : Index := 640#32
  ![v232.toNat, 640]
def k0_off8 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v2 : BitVec 32 := Scalar.muli arg12 c1_i32_4
  let v3 : BitVec 32 := Scalar.addi c0_i32_5 v2
  let c32_i32 : BitVec 32 := 32#32
  let v4 : BitVec 32 := Scalar.muli v3 c32_i32
  let v5 : BitVec 32 := v4
  let v276 : Index := Scalar.indexCast v5
  let c768 : Index := 768#32
  ![v276.toNat, 768]
def k0_off9 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v2 : BitVec 32 := Scalar.muli arg12 c1_i32_4
  let v3 : BitVec 32 := Scalar.addi c0_i32_5 v2
  let c32_i32 : BitVec 32 := 32#32
  let v4 : BitVec 32 := Scalar.muli v3 c32_i32
  let v5 : BitVec 32 := v4
  let v320 : Index := Scalar.indexCast v5
  let c896 : Index := 896#32
  ![v320.toNat, 896]
def k0_off10 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v2 : BitVec 32 := Scalar.muli arg12 c1_i32_4
  let v3 : BitVec 32 := Scalar.addi c0_i32_5 v2
  let c32_i32 : BitVec 32 := 32#32
  let v4 : BitVec 32 := Scalar.muli v3 c32_i32
  let v5 : BitVec 32 := v4
  let v364 : Index := Scalar.indexCast v5
  let c1024 : Index := 1024#32
  ![v364.toNat, 1024]
def k0_off11 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v2 : BitVec 32 := Scalar.muli arg12 c1_i32_4
  let v3 : BitVec 32 := Scalar.addi c0_i32_5 v2
  let c32_i32 : BitVec 32 := 32#32
  let v4 : BitVec 32 := Scalar.muli v3 c32_i32
  let v5 : BitVec 32 := v4
  let v408 : Index := Scalar.indexCast v5
  let c1152 : Index := 1152#32
  ![v408.toNat, 1152]
def k0_off12 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v2 : BitVec 32 := Scalar.muli arg12 c1_i32_4
  let v3 : BitVec 32 := Scalar.addi c0_i32_5 v2
  let c32_i32 : BitVec 32 := 32#32
  let v4 : BitVec 32 := Scalar.muli v3 c32_i32
  let v5 : BitVec 32 := v4
  let v452 : Index := Scalar.indexCast v5
  let c1280 : Index := 1280#32
  ![v452.toNat, 1280]
def k0_off13 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v2 : BitVec 32 := Scalar.muli arg12 c1_i32_4
  let v3 : BitVec 32 := Scalar.addi c0_i32_5 v2
  let c32_i32 : BitVec 32 := 32#32
  let v4 : BitVec 32 := Scalar.muli v3 c32_i32
  let v5 : BitVec 32 := v4
  let v496 : Index := Scalar.indexCast v5
  let c1408 : Index := 1408#32
  ![v496.toNat, 1408]
def k0_off14 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v2 : BitVec 32 := Scalar.muli arg12 c1_i32_4
  let v3 : BitVec 32 := Scalar.addi c0_i32_5 v2
  let c32_i32 : BitVec 32 := 32#32
  let v4 : BitVec 32 := Scalar.muli v3 c32_i32
  let v5 : BitVec 32 := v4
  let v540 : Index := Scalar.indexCast v5
  let c1536 : Index := 1536#32
  ![v540.toNat, 1536]
def k0_off15 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v2 : BitVec 32 := Scalar.muli arg12 c1_i32_4
  let v3 : BitVec 32 := Scalar.addi c0_i32_5 v2
  let c32_i32 : BitVec 32 := 32#32
  let v4 : BitVec 32 := Scalar.muli v3 c32_i32
  let v5 : BitVec 32 := v4
  let v584 : Index := Scalar.indexCast v5
  let c1664 : Index := 1664#32
  ![v584.toNat, 1664]
def k0_off16 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v2 : BitVec 32 := Scalar.muli arg12 c1_i32_4
  let v3 : BitVec 32 := Scalar.addi c0_i32_5 v2
  let c32_i32 : BitVec 32 := 32#32
  let v4 : BitVec 32 := Scalar.muli v3 c32_i32
  let v5 : BitVec 32 := v4
  let v628 : Index := Scalar.indexCast v5
  let c1792 : Index := 1792#32
  ![v628.toNat, 1792]
def k0_off17 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v2 : BitVec 32 := Scalar.muli arg12 c1_i32_4
  let v3 : BitVec 32 := Scalar.addi c0_i32_5 v2
  let c32_i32 : BitVec 32 := 32#32
  let v4 : BitVec 32 := Scalar.muli v3 c32_i32
  let v5 : BitVec 32 := v4
  let v672 : Index := Scalar.indexCast v5
  let c1920 : Index := 1920#32
  ![v672.toNat, 1920]
@[reducible] def k0_t2_loop : Scf.Loop 32 :=
  let c0_i32_1 : BitVec 32 := 0#32
  let c8_i32 : BitVec 32 := 8#32
  let v1 : BitVec 32 := Scalar.addi c0_i32_1 c8_i32
  let c1_i32_2 : BitVec 32 := 1#32
  ⟨c0_i32_1, v1, c1_i32_2⟩
def k0_mult2 (k0_t2 : Fin k0_t2_loop.trips) : BitVec 32 :=
  let c0_i32_5 : BitVec 32 := 0#32
  let c0_i32_1 : BitVec 32 := 0#32
  let c1_i32_2 : BitVec 32 := 1#32
  let arg12 : BitVec 32 := Scf.iv c0_i32_1 c1_i32_2 k0_t2
  let c1_i32_4 : BitVec 32 := 1#32
  let v2 : BitVec 32 := Scalar.muli arg12 c1_i32_4
  let v3 : BitVec 32 := Scalar.addi c0_i32_5 v2
  let c512_i32 : BitVec 32 := 512#32
  let v4 : BitVec 32 := Scalar.muli v3 c512_i32
  v4
def k0_off18 (k0_t2 : Fin k0_t2_loop.trips) : Fin 2 → Nat :=
  let c0_i32_5 : BitVec 32 := 0#32
  let c0_i32_1 : BitVec 32 := 0#32
  let c1_i32_2 : BitVec 32 := 1#32
  let arg12 : BitVec 32 := Scf.iv c0_i32_1 c1_i32_2 k0_t2
  let c1_i32_4 : BitVec 32 := 1#32
  let v2 : BitVec 32 := Scalar.muli arg12 c1_i32_4
  let v3 : BitVec 32 := Scalar.addi c0_i32_5 v2
  let c512_i32 : BitVec 32 := 512#32
  let v4 : BitVec 32 := Scalar.muli v3 c512_i32
  let v5 : BitVec 32 := v4
  let v7 : Index := Scalar.indexCast v5
  let c0_7 : Index := 0#32
  ![v7.toNat, 0]
def k0_off19 (k0_t2 : Fin k0_t2_loop.trips) : Fin 2 → Nat :=
  let c0_14 : Index := 0#32
  let c0_i32_5 : BitVec 32 := 0#32
  let c0_i32_1 : BitVec 32 := 0#32
  let c1_i32_2 : BitVec 32 := 1#32
  let arg12 : BitVec 32 := Scf.iv c0_i32_1 c1_i32_2 k0_t2
  let c1_i32_4 : BitVec 32 := 1#32
  let v2 : BitVec 32 := Scalar.muli arg12 c1_i32_4
  let v3 : BitVec 32 := Scalar.addi c0_i32_5 v2
  let c512_i32 : BitVec 32 := 512#32
  let v4 : BitVec 32 := Scalar.muli v3 c512_i32
  let v5 : BitVec 32 := v4
  let v22 : Index := Scalar.indexCast v5
  ![0, v22.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DxRefIdeal.lean ====
abbrev S7680x2048 : Shape := ⟨2, ![7680, 2048]⟩
abbrev S7680x64 : Shape := ⟨2, ![7680, 64]⟩
abbrev S4096x2048 : Shape := ⟨2, ![4096, 2048]⟩
abbrev S1 : Shape := ⟨1, ![1]⟩
abbrev S7680x4096 : Shape := ⟨2, ![7680, 4096]⟩
abbrev S7680x64x1 : Shape := ⟨3, ![7680, 64, 1]⟩
abbrev S7680x64x32 : Shape := ⟨3, ![7680, 64, 32]⟩

abbrev nBuf : Space → Nat
  | .hbm => 9
  | .vmem => 7
  | .smem => 2
  | _ => 0

abbrev bufTy : (tb : Table) → Fin (tcTables nBuf tb) → BufTy
  | .hbm, ⟨0, _⟩ => ⟨S7680x2048, .fp8e5m2⟩
  | .hbm, ⟨1, _⟩ => ⟨S7680x64, .f32⟩
  | .hbm, ⟨2, _⟩ => ⟨S7680x2048, .fp8e5m2⟩
  | .hbm, ⟨3, _⟩ => ⟨S7680x64, .f32⟩
  | .hbm, ⟨4, _⟩ => ⟨S4096x2048, .fp8e4m3⟩
  | .hbm, ⟨5, _⟩ => ⟨S1, .f32⟩
  | .hbm, ⟨6, _⟩ => ⟨S4096x2048, .fp8e4m3⟩
  | .hbm, ⟨7, _⟩ => ⟨S1, .f32⟩
  | .hbm, ⟨8, _⟩ => ⟨S7680x4096, .bf16⟩
  | .local _ .vmem, ⟨0, _⟩ => ⟨S7680x2048, .fp8e5m2⟩
  | .local _ .vmem, ⟨1, _⟩ => ⟨S7680x64, .f32⟩
  | .local _ .vmem, ⟨2, _⟩ => ⟨S7680x2048, .fp8e5m2⟩
  | .local _ .vmem, ⟨3, _⟩ => ⟨S7680x64, .f32⟩
  | .local _ .vmem, ⟨4, _⟩ => ⟨S4096x2048, .fp8e4m3⟩
  | .local _ .vmem, ⟨5, _⟩ => ⟨S4096x2048, .fp8e4m3⟩
  | .local _ .vmem, ⟨6, _⟩ => ⟨S7680x4096, .bf16⟩
  | .local _ .smem, ⟨0, _⟩ => ⟨S1, .f32⟩
  | .local _ .smem, ⟨1, _⟩ => ⟨S1, .f32⟩
  | _, _ => ⟨S7680x2048, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg6_0 : Ref sig .tc := ⟨.vmem, 5, rfl⟩
abbrev cc0_stg8_0 : Ref sig .tc := ⟨.vmem, 6, rfl⟩
abbrev cc0_stg5_0 : Ref sig .tc := ⟨.smem, 0, rfl⟩
abbrev cc0_stg7_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S7680x2048 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x2048 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7680x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7680x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.DxBits.Exit.lean ====
/-
The exit of the dequantising loop of the input-gradient kernel over the machine's own numbers: after its trips the two scratch buffers hold what the
trips wrote, whatever they held at entry, since the trips' blocks cover them.
-/
module

public import proofs.«01_k».proof.Proof.Gen.Dx.Loops
public import Idealize.ShloMosaic.Lib.Pipeline.FrameBody
public import Idealize.ShloMosaic.Lib.Pipeline.Frame
public import Idealize.ShloMosaic.Lib.Ring

@[expose] public section

set_option maxRecDepth 16384
set_option maxHeartbeats 1000000

noncomputable section

namespace Cert.Dx.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The pieces of all trips cover scratch `arg10`. -/
theorem cover_t1_arg10 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (y : S512x2048.Idx) :
    ∃ pc ∈ (pb_k0_t1 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6 16).1, y ∈ pc.1.set :=
  View.cover_of_tiledL (pb_k0_t1 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6 16).1 S32x128.size (by sl_kernel_rfl) y

/-- The pieces of all trips cover scratch `arg11`. -/
theorem cover_t1_arg11 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (y : S512x2048.Idx) :
    ∃ pc ∈ (pb_k0_t1 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6 16).2, y ∈ pc.1.set :=
  View.cover_of_tiledL (pb_k0_t1 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6 16).2 S32x128.size (by sl_kernel_rfl) y

/-- What scratch `arg10` holds after the loop, as a value. -/
def scr10 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) : S512x2048.Idx → Elt F .bf16 := View.canon (pb_k0_t1 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6 16).1

/-- What scratch `arg11` holds after the loop, as a value. -/
def scr11 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) : S512x2048.Idx → Elt F .bf16 := View.canon (pb_k0_t1 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6 16).2

/-- After the loop both scratch buffers hold values that do not depend on their contents at entry. -/
instance exit_k0_t1 (𝒱 : Variants) (c : Dev nD) (bd : Option 𝒱.V) (E : Set ℕ) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg10 : BufTy.Contents (Elt F) arg10.view.ty) (G_arg11 : BufTy.Contents (Elt F) arg11.view.ty) :
    LoopExit (loopInv_k0_t1 (F := F) 𝒱 c bd E i arg1 harg1 arg2 harg2 arg3 harg3 arg4 harg4 arg5 harg5 arg6 harg6 arg7 harg7 arg8 harg8 arg9 harg9 arg10 harg10 arg11 harg11 X_arg3 X_arg4 X_arg5 X_arg6 G_arg10 G_arg11) where
  post _ := iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg10.view.loc (c : Thread nD τ) ↦[arg10.view.set]{fullShare} harg10.unread (scr10 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6)) ∗ (arg11.view.loc (c : Thread nD τ) ↦[arg11.view.set]{fullShare} harg11.unread (scr11 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6)))
  exit acc := by
    show inv_k0_t1 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6 G_arg10 G_arg11 16 acc ⊢ _
    iintro ⟨HR3, HR4, HR5, HR6, ⟨%f10, HW10, %h10⟩, ⟨%f11, HW11, %h11⟩⟩
    have e10 : f10 = harg10.unread (scr10 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6) :=
      harg10.eq_unread (by rw [h10]; exact View.read_writes_eq_canon _ _ _ (cover_t1_arg10 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6))
    have e11 : f11 = harg11.unread (scr11 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6) :=
      harg11.eq_unread (by rw [h11]; exact View.read_writes_eq_canon _ _ _ (cover_t1_arg11 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6))
    subst e10; subst e11
    isplitl [HR3]; · iexact HR3
    isplitl [HR4]; · iexact HR4
    isplitl [HR5]; · iexact HR5
    isplitl [HR6]; · iexact HR6
    isplitl [HW10]; · iexact HW10
    iexact HW11

end Cert.Dx.Gen

end
-- ==== Proof.DxBits.Run.lean ====
/-
The run of the input-gradient kernel over the machine's own numbers's body: the pieces its stores leave in the output block.
-/
module

public import proofs.«01_k».proof.Proof.Gen.Dx.Frame.Runs
public import proofs.«01_k».proof.Proof.DxBits.Exit

@[expose] public section

-- membership in a rectangle of production extents (`View.cover_of_tiled`): the elaborator's structural look
-- recurses once per coordinate of the long axes
set_option maxRecDepth 16384

noncomputable section

namespace Cert.Dx.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole)
    (x0 : Vec F S1 .f32) (x1 : Vec F S1 .f32) (x2 : Vec F S512x2048 .fp8e5m2) (x3 : Vec F S512x64 .f32) (x4 : Vec F S512x2048 .fp8e5m2) (x5 : Vec F S512x64 .f32) (x6 : Vec F S4096x2048 .fp8e4m3) (x7 : Vec F S4096x2048 .fp8e4m3) :
    { L8 : List (View.Piece (Elt F) S512x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ d, owns (c : Thread nD τ) arg10 fullShare d) ∗ (∃ d, owns (c : Thread nD τ) arg11 fullShare d)) -∗ K ⟨⟩))
          ⊢ wp frame (wpE (defs₀ (F := F)) Variants.none c none) E (cc0_dx i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0_dx_eq_skeleton]; unfold cc0_dx_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [HL0]
    · iexists _; isplitr; · ipureintro; exact harg3.read_unread _
      iexact HL0
    isplitl [HL1]
    · iexists _; isplitr; · ipureintro; exact harg4.read_unread _
      iexact HL1
    isplitl [HL2]
    · iexists _; isplitr; · ipureintro; exact harg5.read_unread _
      iexact HL2
    isplitl [HL3]
    · iexists _; isplitr; · ipureintro; exact harg6.read_unread _
      iexact HL3
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HL4]
    · iexists _, _; isplitr; swap; · iexact HL4
      ipureintro; rfl
    iexists _, _; isplitr; swap; · iexact HL5
    ipureintro; rfl

end Cert.Dx.Gen

end
-- ==== Proof.DxBits.Frame.lean ====
/-
The frame of the input-gradient kernel over the machine's own numbers: every run ends, the arguments unchanged, the output array named.
-/
module

public import proofs.«01_k».proof.Proof.DxBits.Run
public import Idealize.ShloMosaic.Lib.Claim

@[expose] public section

-- membership in a rectangle of production extents (`View.cover_of_tiled`): the elaborator's structural look
-- recurses once per coordinate of the long axes
set_option maxRecDepth 16384

noncomputable section

namespace Cert.Dx.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 8 tile its block (8 stores of `S512x512`, checked by the kernel's evaluation: Lib/Ring.lean `Piece.tiledL`, linear in the pieces, through a loop's `@[irreducible]` trip theorem too), so they cover it. -/
theorem cover0_A_8 (c : Dev nD) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole)
    (x0 : Vec F S1 .f32) (x1 : Vec F S1 .f32) (x2 : Vec F S512x2048 .fp8e5m2) (x3 : Vec F S512x64 .f32) (x4 : Vec F S512x2048 .fp8e5m2) (x5 : Vec F S512x64 .f32) (x6 : Vec F S4096x2048 .fp8e4m3) (x7 : Vec F S4096x2048 .fp8e4m3) (y : S512x4096.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5 x6 x7).1 S512x512.size (by sl_kernel_rfl) y

/-- What the run leaves in output 8's staging buffer: its pieces read back over junk. -/
def out0_A_8 (c : Dev nD) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole)
    (x0 : Vec F S1 .f32) (x1 : Vec F S1 .f32) (x2 : Vec F S512x2048 .fp8e5m2) (x3 : Vec F S512x64 .f32) (x4 : Vec F S512x2048 .fp8e5m2) (x5 : Vec F S512x64 .f32) (x6 : Vec F S4096x2048 .fp8e4m3) (x7 : Vec F S4096x2048 .fp8e4m3) : Vec F S512x4096 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 x0 x1 x2 x3 x4 x5 x6 x7).1)

/-! ## What the outputs hold after each point -/

/-- What the outputs' staging buffers hold after the body at point `t`: the run's contents at
    the point's memrefs and input blocks. -/
def outsAt0 (c : Dev nD) (t : Fin cfg0.N) : Vec F S512x4096 .bf16 :=
  out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What window 1 holds after a grid point. -/
theorem after0_1 (c : Dev nD) (t : Fin cfg0.N) : (dats m 0 c).after 1 t = iblk m c 1 t := by dsimp only [dats]
/-- What window 2 holds after a grid point. -/
theorem after0_2 (c : Dev nD) (t : Fin cfg0.N) : (dats m 0 c).after 2 t = iblk m c 2 t := by dsimp only [dats]
/-- What window 3 holds after a grid point. -/
theorem after0_3 (c : Dev nD) (t : Fin cfg0.N) : (dats m 0 c).after 3 t = iblk m c 3 t := by dsimp only [dats]
/-- What window 4 holds after a grid point. -/
theorem after0_4 (c : Dev nD) (t : Fin cfg0.N) : (dats m 0 c).after 4 t = iblk m c 4 t := by dsimp only [dats]
/-- What window 5 holds after a grid point. -/
theorem after0_5 (c : Dev nD) (t : Fin cfg0.N) : (dats m 0 c).after 5 t = iblk m c 5 t := by dsimp only [dats]
/-- What window 6 holds after a grid point. -/
theorem after0_6 (c : Dev nD) (t : Fin cfg0.N) : (dats m 0 c).after 6 t = iblk m c 6 t := by dsimp only [dats]
/-- What window 7 holds after a grid point. -/
theorem after0_7 (c : Dev nD) (t : Fin cfg0.N) : (dats m 0 c).after 7 t = iblk m c 7 t := by dsimp only [dats]
/-- What window 8 holds after a grid point. -/
theorem after0_8 (c : Dev nD) (t : Fin cfg0.N) : (dats m 0 c).after 8 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1 holds before a grid point's body runs. -/
theorem before0_1 (c : Dev nD) (t : Fin cfg0.N) (d) : (dats m 0 c).before 1 t d = iblk m c 1 t :=
  before0_1_of m (dats m 0 c) (A_eq m c 1) (after0_1 m c) t d
/-- What window 2 holds before a grid point's body runs. -/
theorem before0_2 (c : Dev nD) (t : Fin cfg0.N) (d) : (dats m 0 c).before 2 t d = iblk m c 2 t :=
  before0_2_of m (dats m 0 c) (A_eq m c 2) (after0_2 m c) t d
/-- What window 3 holds before a grid point's body runs. -/
theorem before0_3 (c : Dev nD) (t : Fin cfg0.N) (d) : (dats m 0 c).before 3 t d = iblk m c 3 t :=
  before0_3_of m (dats m 0 c) (A_eq m c 3) (after0_3 m c) t d
/-- What window 4 holds before a grid point's body runs. -/
theorem before0_4 (c : Dev nD) (t : Fin cfg0.N) (d) : (dats m 0 c).before 4 t d = iblk m c 4 t :=
  before0_4_of m (dats m 0 c) (A_eq m c 4) (after0_4 m c) t d
/-- What window 5 holds before a grid point's body runs. -/
theorem before0_5 (c : Dev nD) (t : Fin cfg0.N) (d) : (dats m 0 c).before 5 t d = iblk m c 5 t :=
  before0_5_of m (dats m 0 c) (A_eq m c 5) (after0_5 m c) t d
/-- What window 6 holds before a grid point's body runs. -/
theorem before0_6 (c : Dev nD) (t : Fin cfg0.N) (d) : (dats m 0 c).before 6 t d = iblk m c 6 t :=
  before0_6_of m (dats m 0 c) (A_eq m c 6) (after0_6 m c) t d
/-- What window 7 holds before a grid point's body runs. -/
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_8
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_Dx`'s statement (Defs.lean) at any `F` — Proof.lean cites it at `Bits`:
    `theorem Cert.Proof.claim : Cert.Claim := ⟨Cert.Dx.Gen.facts, fun m ρ _ => Cert.Dx.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Dx.Gen

end
-- ==== Proof.Dx.Spec.lean ====
/-
The input gradient and the weight gradients as functions of the argument arrays, over the extended reals.
-/
module

public import Idealize.ShloMosaic.Lib.Pointwise

@[expose] public section

noncomputable section

namespace Cert.Spec

open Idealize.ShloMosaic

/-- Index of the group of 32 columns (of `32 * n`) a column is in. -/
def grp {n : ℕ} (k : Fin (32 * n)) : Fin n := ⟨k.val / 32, by have := k.isLt; omega⟩

/-- Codes times group scales along the second axis, at row `r` and column `k`. -/
def deqC {m n : ℕ} (a : (⟨2, ![m, 32 * n]⟩ : Shape).Idx → EReal) (s : (⟨2, ![m, n]⟩ : Shape).Idx → EReal) (r : Fin m) (k : Fin (32 * n)) : EReal :=
  a (ix2 r k) * s (ix2 r (grp k))

/-- `dx[t, d] = (Σ_k dg[t, k] * w_gl[d, k]) * s_gl + (Σ_k dxb[t, k] * w_in[d, k]) * s_in`, where `dg` and `dxb` are codes
    times the scale of their group of 32. -/
def dxF (a0 : (⟨2, ![7680, 2048]⟩ : Shape).Idx → EReal) (a1 : (⟨2, ![7680, 64]⟩ : Shape).Idx → EReal)
    (a2 : (⟨2, ![7680, 2048]⟩ : Shape).Idx → EReal) (a3 : (⟨2, ![7680, 64]⟩ : Shape).Idx → EReal)
    (a4 : (⟨2, ![4096, 2048]⟩ : Shape).Idx → EReal) (a5 : (⟨1, ![1]⟩ : Shape).Idx → EReal)
    (a6 : (⟨2, ![4096, 2048]⟩ : Shape).Idx → EReal) (a7 : (⟨1, ![1]⟩ : Shape).Idx → EReal) : (⟨2, ![7680, 4096]⟩ : Shape).Idx → EReal :=
  fun y => (∑ k : Fin 2048, deqC (m := 7680) (n := 64) a0 a1 (y 0) k * a4 (ix2 (y 1) k)) * a5 (ix1 0)
    + (∑ k : Fin 2048, deqC (m := 7680) (n := 64) a2 a3 (y 0) k * a6 (ix2 (y 1) k)) * a7 (ix1 0)

/-- Codes times group scales along the first axis, at row `k` and column `r`. -/
def deqR {m n : ℕ} (a : (⟨2, ![32 * n, m]⟩ : Shape).Idx → EReal) (s : (⟨2, ![n, m]⟩ : Shape).Idx → EReal) (k : Fin (32 * n)) (r : Fin m) : EReal :=
  a (ix2 k r) * s (ix2 (grp k) r)

/-- `dw[d, r] = Σ_t xn[t, d] * g[t, r]` over the tokens `t`, where `xn` is codes times the scale of their group of 32 columns and
    `g` is codes times the scale of their group of 32 tokens. -/
def dwF (a0 : (⟨2, ![7680, 4096]⟩ : Shape).Idx → EReal) (a1 : (⟨2, ![7680, 128]⟩ : Shape).Idx → EReal)
    (a2 : (⟨2, ![7680, 2048]⟩ : Shape).Idx → EReal) (a3 : (⟨2, ![240, 2048]⟩ : Shape).Idx → EReal) : (⟨2, ![4096, 2048]⟩ : Shape).Idx → EReal :=
  fun y => ∑ t : Fin 7680, deqC (m := 7680) (n := 128) a0 a1 t (y 0) * deqR (m := 2048) (n := 240) a2 a3 t (y 1)

end Cert.Spec

end
-- ==== Proof.DwIn.Scratch.lean ====
/-
What the three scratch buffers of the weight-gradient kernel hold once the groups are expanded, over the extended reals:
every code times the scale of its group of 32.
-/
module

public import proofs.«01_k».proof.Proof.Gen.DwInIdeal.Value
public import Idealize.ShloMosaic.Lib.Pipeline.ValueKit.Geometry
public import Idealize.ShloMosaic.Lib.Pipeline.ValueKit.Acc
public import Idealize.ShloMosaic.Lib.Pointwise

@[expose] public section

set_option maxRecDepth 16384
set_option maxHeartbeats 4000000

noncomputable section

namespace Cert.DwInIdeal.Gen

open Idealize.ShloMosaic Idealize.ShloMosaic.TcCoe Idealize.ShloMosaic.Tactic
open Idealize.SL Idealize.SL.RA Idealize.SL.BI

/-- Codes times the scales of their groups of 32 rows. -/
def expandR (X : S768x2048.Idx → EReal) (Sc : S24x2048.Idx → EReal) : S768x2048.Idx → EReal :=
  fun y => X y * Sc (ix2 (⟨(y 0).val / 32, by have := (y 0).isLt; change (y 0).val < 768 at this; omega⟩ : Fin 24) (y 1))

/-- Codes times the scales of their groups of 32 columns, the block being the `n`th of the column blocks of 1024. -/
def expandC (n : Fin 4) (X : S768x1024.Idx → EReal) (Sc : S768x128.Idx → EReal) : S768x1024.Idx → EReal :=
  fun y => X y * Sc (ix2 (y 0) (⟨32 * n.val + (y 1).val / 32, by have := (y 1).isLt; change (y 1).val < 1024 at this; have := n.isLt; omega⟩ : Fin 128))

/-- One stored piece (codes times one row of scales) is the tile of `expandR` its rectangle names. -/
theorem pieceR_ok (X : S768x2048.Idx → Elt Ideal .fp8e5m2) (Sc : S24x2048.Idx → Elt Ideal .f32) (o : Fin 2 → ℕ) (ho : ∀ a, o a + S32x2048.size a ≤ S768x2048.size a)
    (o1 : Fin 2 → ℕ) (ho1 : ∀ a, o1 a + S1x2048.size a ≤ S24x2048.size a) (g : ℕ)
    (h0 : ∀ a, o a = (![32 * g, 0] : Fin 2 → ℕ) a) (h1 : ∀ a, o1 a = (![g, 0] : Fin 2 → ℕ) a)
    (c1 : S1x2048.ShapeCasts S1x2048) (b : S1x2048.Broadcasts S32x2048) (c3 : S32x2048.ShapeCasts S32x2048) (x : S32x2048.Idx) :
    (shapeCast S32x2048 (mulf (extf .bf16 (View.ld X (Rect.unit (s := S768x2048) o S32x2048.size ho)) bitsLt_fp8e5m2_bf16)
      (truncf .bf16 (broadcastTo S32x2048 (shapeCast S1x2048 (View.ld Sc (Rect.unit (s := S24x2048) o1 S1x2048.size ho1)) c1) b) bitsLt_bf16_f32) : FVec Ideal S32x2048 .bf16) c3) x
    = expandR X Sc ((Rect.unit (s := S768x2048) o S32x2048.size ho).emb x) := by
  have hx0 : (x 0).val < 32 := (x 0).isLt
  have e0 := h0 0
  have e1 := h0 1
  have e2 := h1 0
  have e3 := h1 1
  simp only [Matrix.cons_val_zero, Matrix.cons_val_one] at e0 e1 e2 e3
  rw [shapeCast_self, mulf_apply, extf_apply, truncf_apply]
  have hs : (shapeCast S1x2048 (View.ld Sc (Rect.unit (s := S24x2048) o1 S1x2048.size ho1)) c1 : FVec Ideal S1x2048 .f32) = View.ld Sc (Rect.unit (s := S24x2048) o1 S1x2048.size ho1) := shapeCast_self _ _
  refine (congrArg (fun t : FVec Ideal S1x2048 .f32 => X ((Rect.unit (s := S768x2048) o S32x2048.size ho).emb x) * broadcastTo S32x2048 t b x) hs).trans ?_
  show X ((Rect.unit (s := S768x2048) o S32x2048.size ho).emb x) * Sc ((Rect.unit (s := S24x2048) o1 S1x2048.size ho1).emb _) = _
  unfold expandR
  congr 2
  funext b
  match b with
  | ⟨0, _⟩ =>
    apply Fin.ext
    show o1 0 + 1 * 0 = (o 0 + 1 * (x 0).val) / 32
    omega
  | ⟨1, _⟩ =>
    apply Fin.ext
    show o1 1 + 1 * (x 1).val = (o 1 + 1 * (x 1).val)
    omega

/-- One stored piece (codes times scales gathered by lane / 32) is the tile of `expandC` its rectangle names. -/
theorem pieceC_ok (X : S768x1024.Idx → Elt Ideal .fp8e4m3) (Sc : S768x128.Idx → Elt Ideal .f32) (n : Fin 4) (o : Fin 2 → ℕ) (ho : ∀ a, o a + S32x128.size a ≤ S768x1024.size a)
    (o1 : Fin 2 → ℕ) (ho1 : ∀ a, o1 a + S32x128.size a ≤ S768x128.size a) (g j : ℕ)
    (h0 : ∀ a, o a = (![32 * g, 128 * j] : Fin 2 → ℕ) a) (h1 : ∀ a, o1 a = (![32 * g, 0] : Fin 2 → ℕ) a) (hj : j < 8)
    (idx : IVec S32x128 32) (hidx : ∀ l : Fin 128, (idx (ix2 (0 : Fin 32) l)).toNat = 32 * n.val + (4 * j + l.val / 32))
    (hrow : ∀ x : S32x128.Idx, idx x = idx (ix2 (0 : Fin 32) (x 1))) (c1 : S32x128.ShapeCasts S32x128x1) (c2 : S32x128x1.ShapeCasts S32x128) (c3 : S32x128.ShapeCasts S32x128) (x : S32x128.Idx) :
    (shapeCast S32x128 (mulf (extf .bf16 (View.ld X (Rect.unit (s := S768x1024) o S32x128.size ho)) bitsLt_fp8e4m3_bf16)
      (truncf .bf16 (dynamicGather 1 (extf .f32 (truncf .bf16 (View.ld Sc (Rect.unit (s := S768x128) o1 S32x128.size ho1)) bitsLt_bf16_f32 : FVec Ideal S32x128 .bf16) bitsLt_bf16_f32)
        (shapeCast S32x128 (shapeCast S32x128x1 idx c1) c2)) bitsLt_bf16_f32) : FVec Ideal S32x128 .bf16) c3) x
    = expandC n X Sc ((Rect.unit (s := S768x1024) o S32x128.size ho).emb x) := by
  have hx1 : (x 1).val < 128 := (x 1).isLt
  have hx0 : (x 0).val < 32 := (x 0).isLt
  have hn := n.isLt
  have e0 := h0 0
  have e1 := h0 1
  have e2 := h1 0
  have e3 := h1 1
  simp only [Matrix.cons_val_zero, Matrix.cons_val_one] at e0 e1 e2 e3
  rw [shapeCast_self, mulf_apply, extf_apply, truncf_apply, dynamicGather_apply, shapeCast_shapeCast]
  have hi : (fun b => if b = 1 then ⟨(idx x).toNat % S32x128.size b, Nat.mod_lt _ (Fin.pos (x b))⟩ else x b : S32x128.Idx)
      = ix2 (x 0 : Fin 32) (⟨32 * n.val + (4 * j + (x 1).val / 32), by omega⟩ : Fin 128) := by
    funext b
    match b with
    | ⟨0, _⟩ => rfl
    | ⟨1, _⟩ =>
      apply Fin.ext
      show (idx x).toNat % 128 = 32 * n.val + (4 * j + (x 1).val / 32)
      rw [hrow x, hidx (x 1), Nat.mod_eq_of_lt (by omega)]
  rw [hi]
  show X ((Rect.unit (s := S768x1024) o S32x128.size ho).emb x) * Sc ((Rect.unit (s := S768x128) o1 S32x128.size ho1).emb _) = _
  unfold expandC
  congr 2
  funext b
  match b with
  | ⟨0, _⟩ =>
    apply Fin.ext
    show o1 0 + 1 * (x 0).val = o 0 + 1 * (x 0).val
    omega
  | ⟨1, _⟩ =>
    apply Fin.ext
    show o1 1 + 1 * (32 * n.val + (4 * j + (x 1).val / 32)) = 32 * n.val + (o 1 + 1 * (x 1).val) / 32
    omega

/-- The scale index of every lane: the block's first group plus the lane over 32. -/
def k0_chain (n : Fin 4) (q : BitVec 32) : IVec S32x128 32 :=
  let v : IVec S32x128 32 := addi (broadcast S32x128 (Scalar.addi (Scalar.muli (BitVec.ofNat 32 n.val) 32#32) q))
    (select (andi (cmpi .ne (subi (extui 32 (cmpi .sgt (iota .tc S32x128 32 [1] iota_S32x128_d1_w32) (broadcast S32x128 0#32)) natLt_1_32)
        (extui 32 (cmpi .slt (iota .tc S32x128 32 [1] iota_S32x128_d1_w32) (broadcast S32x128 0#32)) natLt_1_32))
        (broadcast S32x128 (Scalar.subi (Scalar.extui (Scalar.cmpi .sgt 32#32 0#32)) (Scalar.extui (Scalar.cmpi .slt 32#32 0#32)))))
      (cmpi .ne (remsi (iota .tc S32x128 32 [1] iota_S32x128_d1_w32) (broadcast S32x128 32#32)) (broadcast S32x128 0#32)))
      (subi (divsi (iota .tc S32x128 32 [1] iota_S32x128_d1_w32) (broadcast S32x128 32#32)) (broadcast S32x128 1#32))
      (divsi (iota .tc S32x128 32 [1] iota_S32x128_d1_w32) (broadcast S32x128 32#32)))
  select (cmpi .slt v (broadcast S32x128 0#32)) (addi v (broadcast S32x128 128#32)) v

/-- The lane's scale index in column piece 0 of the block. -/
theorem idx_ok0 : ∀ n : Fin 4, ∀ l : Fin 128, (k0_chain n 0#32 (ix2 (0 : Fin 32) l)).toNat = 32 * n.val + (4 * 0 + l.val / 32) := by decide +kernel

/-- The lane's scale index in column piece 1 of the block. -/
theorem idx_ok1 : ∀ n : Fin 4, ∀ l : Fin 128, (k0_chain n 4#32 (ix2 (0 : Fin 32) l)).toNat = 32 * n.val + (4 * 1 + l.val / 32) := by decide +kernel

/-- The lane's scale index in column piece 2 of the block. -/
theorem idx_ok2 : ∀ n : Fin 4, ∀ l : Fin 128, (k0_chain n 8#32 (ix2 (0 : Fin 32) l)).toNat = 32 * n.val + (4 * 2 + l.val / 32) := by decide +kernel

/-- The lane's scale index in column piece 3 of the block. -/
theorem idx_ok3 : ∀ n : Fin 4, ∀ l : Fin 128, (k0_chain n 12#32 (ix2 (0 : Fin 32) l)).toNat = 32 * n.val + (4 * 3 + l.val / 32) := by decide +kernel

/-- The lane's scale index in column piece 4 of the block. -/
theorem idx_ok4 : ∀ n : Fin 4, ∀ l : Fin 128, (k0_chain n 16#32 (ix2 (0 : Fin 32) l)).toNat = 32 * n.val + (4 * 4 + l.val / 32) := by decide +kernel

/-- The lane's scale index in column piece 5 of the block. -/
theorem idx_ok5 : ∀ n : Fin 4, ∀ l : Fin 128, (k0_chain n 20#32 (ix2 (0 : Fin 32) l)).toNat = 32 * n.val + (4 * 5 + l.val / 32) := by decide +kernel

/-- The lane's scale index in column piece 6 of the block. -/
theorem idx_ok6 : ∀ n : Fin 4, ∀ l : Fin 128, (k0_chain n 24#32 (ix2 (0 : Fin 32) l)).toNat = 32 * n.val + (4 * 6 + l.val / 32) := by decide +kernel

/-- The lane's scale index in column piece 7 of the block. -/
theorem idx_ok7 : ∀ n : Fin 4, ∀ l : Fin 128, (k0_chain n 28#32 (ix2 (0 : Fin 32) l)).toNat = 32 * n.val + (4 * 7 + l.val / 32) := by decide +kernel

/-- The pieces of scratch `arg11` are tiles of the expanded array. -/
theorem tiles1 (c : Dev nD) (arg4 : Memref sig .tc .vmem S768x2048 .fp8e5m2) (harg4 : arg4.IsWhole) (arg5 : Memref sig .tc .vmem S24x2048 .f32) (harg5 : arg5.IsWhole) (x2 : Vec Ideal S768x2048 .fp8e5m2) (x3 : Vec Ideal S24x2048 .f32) :
    ∀ p ∈ kernelRun0_B.sl.HS1_24 (F := Ideal) c arg4 harg4 arg5 harg5 x2 x3, ∀ z : p.1.shape.Idx, p.2 z = expandR (arg4.view.read (Elt Ideal) (harg4.unread x2)) (arg5.view.read (Elt Ideal) (harg5.unread x3)) (p.1.emb z) := by
  unfold kernelRun0_B.sl.HS1_24
  simp only [List.forall_mem_cons]
  refine ⟨?_, ?_, ?_, ?_, ?_, ?_, ?_, ?_, ?_, ?_, ?_, ?_, ?_, ?_, ?_, ?_, ?_, ?_, ?_, ?_, ?_, ?_, ?_, ?_, fun p hp => absurd hp List.not_mem_nil⟩
  · intro z; exact pieceR_ok _ _ _ _ _ _ 23 (by decide) (by decide) _ _ _ z
  · intro z; exact pieceR_ok _ _ _ _ _ _ 22 (by decide) (by decide) _ _ _ z
  · intro z; exact pieceR_ok _ _ _ _ _ _ 21 (by decide) (by decide) _ _ _ z
  · intro z; exact pieceR_ok _ _ _ _ _ _ 20 (by decide) (by decide) _ _ _ z
  · intro z; exact pieceR_ok _ _ _ _ _ _ 19 (by decide) (by decide) _ _ _ z
  · intro z; exact pieceR_ok _ _ _ _ _ _ 18 (by decide) (by decide) _ _ _ z
  · intro z; exact pieceR_ok _ _ _ _ _ _ 17 (by decide) (by decide) _ _ _ z
  · intro z; exact pieceR_ok _ _ _ _ _ _ 16 (by decide) (by decide) _ _ _ z
  · intro z; exact pieceR_ok _ _ _ _ _ _ 15 (by decide) (by decide) _ _ _ z
  · intro z; exact pieceR_ok _ _ _ _ _ _ 14 (by decide) (by decide) _ _ _ z
  · intro z; exact pieceR_ok _ _ _ _ _ _ 13 (by decide) (by decide) _ _ _ z
  · intro z; exact pieceR_ok _ _ _ _ _ _ 12 (by decide) (by decide) _ _ _ z
  · intro z; exact pieceR_ok _ _ _ _ _ _ 11 (by decide) (by decide) _ _ _ z
  · intro z; exact pieceR_ok _ _ _ _ _ _ 10 (by decide) (by decide) _ _ _ z
  · intro z; exact pieceR_ok _ _ _ _ _ _ 9 (by decide) (by decide) _ _ _ z
  · intro z; exact pieceR_ok _ _ _ _ _ _ 8 (by decide) (by decide) _ _ _ z
  · intro z; exact pieceR_ok _ _ _ _ _ _ 7 (by decide) (by decide) _ _ _ z
  · intro z; exact pieceR_ok _ _ _ _ _ _ 6 (by decide) (by decide) _ _ _ z
  · intro z; exact pieceR_ok _ _ _ _ _ _ 5 (by decide) (by decide) _ _ _ z
  · intro z; exact pieceR_ok _ _ _ _ _ _ 4 (by decide) (by decide) _ _ _ z
  · intro z; exact pieceR_ok _ _ _ _ _ _ 3 (by decide) (by decide) _ _ _ z
  · intro z; exact pieceR_ok _ _ _ _ _ _ 2 (by decide) (by decide) _ _ _ z
  · intro z; exact pieceR_ok _ _ _ _ _ _ 1 (by decide) (by decide) _ _ _ z
  · intro z; exact pieceR_ok _ _ _ _ _ _ 0 (by decide) (by decide) _ _ _ z

/-- The pieces of scratch `arg12` are tiles of the expanded array. -/
theorem tiles2 (c : Dev nD) (arg6 : Memref sig .tc .vmem S768x2048 .fp8e5m2) (harg6 : arg6.IsWhole) (arg7 : Memref sig .tc .vmem S24x2048 .f32) (harg7 : arg7.IsWhole) (x4 : Vec Ideal S768x2048 .fp8e5m2) (x5 : Vec Ideal S24x2048 .f32) :
    ∀ p ∈ kernelRun0_B.sl.HS2_24 (F := Ideal) c arg6 harg6 arg7 harg7 x4 x5, ∀ z : p.1.shape.Idx, p.2 z = expandR (arg6.view.read (Elt Ideal) (harg6.unread x4)) (arg7.view.read (Elt Ideal) (harg7.unread x5)) (p.1.emb z) := by
  unfold kernelRun0_B.sl.HS2_24
  simp only [List.forall_mem_cons]
  refine ⟨?_, ?_, ?_, ?_, ?_, ?_, ?_, ?_, ?_, ?_, ?_, ?_, ?_, ?_, ?_, ?_, ?_, ?_, ?_, ?_, ?_, ?_, ?_, ?_, fun p hp => absurd hp List.not_mem_nil⟩
  · intro z; exact pieceR_ok _ _ _ _ _ _ 23 (by decide) (by decide) _ _ _ z
  · intro z; exact pieceR_ok _ _ _ _ _ _ 22 (by decide) (by decide) _ _ _ z
  · intro z; exact pieceR_ok _ _ _ _ _ _ 21 (by decide) (by decide) _ _ _ z
  · intro z; exact pieceR_ok _ _ _ _ _ _ 20 (by decide) (by decide) _ _ _ z
  · intro z; exact pieceR_ok _ _ _ _ _ _ 19 (by decide) (by decide) _ _ _ z
  · intro z; exact pieceR_ok _ _ _ _ _ _ 18 (by decide) (by decide) _ _ _ z
  · intro z; exact pieceR_ok _ _ _ _ _ _ 17 (by decide) (by decide) _ _ _ z
  · intro z; exact pieceR_ok _ _ _ _ _ _ 16 (by decide) (by decide) _ _ _ z
  · intro z; exact pieceR_ok _ _ _ _ _ _ 15 (by decide) (by decide) _ _ _ z
  · intro z; exact pieceR_ok _ _ _ _ _ _ 14 (by decide) (by decide) _ _ _ z
  · intro z; exact pieceR_ok _ _ _ _ _ _ 13 (by decide) (by decide) _ _ _ z
  · intro z; exact pieceR_ok _ _ _ _ _ _ 12 (by decide) (by decide) _ _ _ z
  · intro z; exact pieceR_ok _ _ _ _ _ _ 11 (by decide) (by decide) _ _ _ z
  · intro z; exact pieceR_ok _ _ _ _ _ _ 10 (by decide) (by decide) _ _ _ z
  · intro z; exact pieceR_ok _ _ _ _ _ _ 9 (by decide) (by decide) _ _ _ z
  · intro z; exact pieceR_ok _ _ _ _ _ _ 8 (by decide) (by decide) _ _ _ z
  · intro z; exact pieceR_ok _ _ _ _ _ _ 7 (by decide) (by decide) _ _ _ z
  · intro z; exact pieceR_ok _ _ _ _ _ _ 6 (by decide) (by decide) _ _ _ z
  · intro z; exact pieceR_ok _ _ _ _ _ _ 5 (by decide) (by decide) _ _ _ z
  · intro z; exact pieceR_ok _ _ _ _ _ _ 4 (by decide) (by decide) _ _ _ z
  · intro z; exact pieceR_ok _ _ _ _ _ _ 3 (by decide) (by decide) _ _ _ z
  · intro z; exact pieceR_ok _ _ _ _ _ _ 2 (by decide) (by decide) _ _ _ z
  · intro z; exact pieceR_ok _ _ _ _ _ _ 1 (by decide) (by decide) _ _ _ z
  · intro z; exact pieceR_ok _ _ _ _ _ _ 0 (by decide) (by decide) _ _ _ z

/-- The pieces of scratch `arg10` are tiles of the expanded array. -/
theorem tiles0 (c : Dev nD) (i : grid0.Coords) (arg2 : Memref sig .tc .vmem S768x1024 .fp8e4m3) (harg2 : arg2.IsWhole) (arg3 : Memref sig .tc .vmem S768x128 .f32) (harg3 : arg3.IsWhole) (x0 : Vec Ideal S768x1024 .fp8e4m3) (x1 : Vec Ideal S768x128 .f32) :
    ∀ p ∈ kernelRun0_B.sl.HS0_192 (F := Ideal) c i arg2 harg2 arg3 harg3 x0 x1, ∀ z : p.1.shape.Idx, p.2 z = expandC (i 0) (arg2.view.read (Elt Ideal) (harg2.unread x0)) (arg3.view.read (Elt Ideal) (harg3.unread x1)) (p.1.emb z) := by
  unfold kernelRun0_B.sl.HS0_192
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
  · intro z; exact pieceC_ok _ _ (i 0) _ _ _ _ 23 7 (by decide) (by decide) (by decide) _ (fun l => idx_ok7 (i 0) l) (fun x => rfl) _ _ _ z
  · intro z; exact pieceC_ok _ _ (i 0) _ _ _ _ 23 6 (by decide) (by decide) (by decide) _ (fun l => idx_ok6 (i 0) l) (fun x => rfl) _ _ _ z
  · intro z; exact pieceC_ok _ _ (i 0) _ _ _ _ 23 5 (by decide) (by decide) (by decide) _ (fun l => idx_ok5 (i 0) l) (fun x => rfl) _ _ _ z
  · intro z; exact pieceC_ok _ _ (i 0) _ _ _ _ 23 4 (by decide) (by decide) (by decide) _ (fun l => idx_ok4 (i 0) l) (fun x => rfl) _ _ _ z
  · intro z; exact pieceC_ok _ _ (i 0) _ _ _ _ 23 3 (by decide) (by decide) (by decide) _ (fun l => idx_ok3 (i 0) l) (fun x => rfl) _ _ _ z
  · intro z; exact pieceC_ok _ _ (i 0) _ _ _ _ 23 2 (by decide) (by decide) (by decide) _ (fun l => idx_ok2 (i 0) l) (fun x => rfl) _ _ _ z
  · intro z; exact pieceC_ok _ _ (i 0) _ _ _ _ 23 1 (by decide) (by decide) (by decide) _ (fun l => idx_ok1 (i 0) l) (fun x => rfl) _ _ _ z
  · intro z; exact pieceC_ok _ _ (i 0) _ _ _ _ 23 0 (by decide) (by decide) (by decide) _ (fun l => idx_ok0 (i 0) l) (fun x => rfl) _ _ _ z
  · intro z; exact pieceC_ok _ _ (i 0) _ _ _ _ 22 7 (by decide) (by decide) (by decide) _ (fun l => idx_ok7 (i 0) l) (fun x => rfl) _ _ _ z
  · intro z; exact pieceC_ok _ _ (i 0) _ _ _ _ 22 6 (by decide) (by decide) (by decide) _ (fun l => idx_ok6 (i 0) l) (fun x => rfl) _ _ _ z
  · intro z; exact pieceC_ok _ _ (i 0) _ _ _ _ 22 5 (by decide) (by decide) (by decide) _ (fun l => idx_ok5 (i 0) l) (fun x => rfl) _ _ _ z
  · intro z; exact pieceC_ok _ _ (i 0) _ _ _ _ 22 4 (by decide) (by decide) (by decide) _ (fun l => idx_ok4 (i 0) l) (fun x => rfl) _ _ _ z
  · intro z; exact pieceC_ok _ _ (i 0) _ _ _ _ 22 3 (by decide) (by decide) (by decide) _ (fun l => idx_ok3 (i 0) l) (fun x => rfl) _ _ _ z
  · intro z; exact pieceC_ok _ _ (i 0) _ _ _ _ 22 2 (by decide) (by decide) (by decide) _ (fun l => idx_ok2 (i 0) l) (fun x => rfl) _ _ _ z
  · intro z; exact pieceC_ok _ _ (i 0) _ _ _ _ 22 1 (by decide) (by decide) (by decide) _ (fun l => idx_ok1 (i 0) l) (fun x => rfl) _ _ _ z
  · intro z; exact pieceC_ok _ _ (i 0) _ _ _ _ 22 0 (by decide) (by decide) (by decide) _ (fun l => idx_ok0 (i 0) l) (fun x => rfl) _ _ _ z
  · intro z; exact pieceC_ok _ _ (i 0) _ _ _ _ 21 7 (by decide) (by decide) (by decide) _ (fun l => idx_ok7 (i 0) l) (fun x => rfl) _ _ _ z
  · intro z; exact pieceC_ok _ _ (i 0) _ _ _ _ 21 6 (by decide) (by decide) (by decide) _ (fun l => idx_ok6 (i 0) l) (fun x => rfl) _ _ _ z
  · intro z; exact pieceC_ok _ _ (i 0) _ _ _ _ 21 5 (by decide) (by decide) (by decide) _ (fun l => idx_ok5 (i 0) l) (fun x => rfl) _ _ _ z
  · intro z; exact pieceC_ok _ _ (i 0) _ _ _ _ 21 4 (by decide) (by decide) (by decide) _ (fun l => idx_ok4 (i 0) l) (fun x => rfl) _ _ _ z
  · intro z; exact pieceC_ok _ _ (i 0) _ _ _ _ 21 3 (by decide) (by decide) (by decide) _ (fun l => idx_ok3 (i 0) l) (fun x => rfl) _ _ _ z
  · intro z; exact pieceC_ok _ _ (i 0) _ _ _ _ 21 2 (by decide) (by decide) (by decide) _ (fun l => idx_ok2 (i 0) l) (fun x => rfl) _ _ _ z
  · intro z; exact pieceC_ok _ _ (i 0) _ _ _ _ 21 1 (by decide) (by decide) (by decide) _ (fun l => idx_ok1 (i 0) l) (fun x => rfl) _ _ _ z
  · intro z; exact pieceC_ok _ _ (i 0) _ _ _ _ 21 0 (by decide) (by decide) (by decide) _ (fun l => idx_ok0 (i 0) l) (fun x => rfl) _ _ _ z
  · intro z; exact pieceC_ok _ _ (i 0) _ _ _ _ 20 7 (by decide) (by decide) (by decide) _ (fun l => idx_ok7 (i 0) l) (fun x => rfl) _ _ _ z
  · intro z; exact pieceC_ok _ _ (i 0) _ _ _ _ 20 6 (by decide) (by decide) (by decide) _ (fun l => idx_ok6 (i 0) l) (fun x => rfl) _ _ _ z
  · intro z; exact pieceC_ok _ _ (i 0) _ _ _ _ 20 5 (by decide) (by decide) (by decide) _ (fun l => idx_ok5 (i 0) l) (fun x => rfl) _ _ _ z
  · intro z; exact pieceC_ok _ _ (i 0) _ _ _ _ 20 4 (by decide) (by decide) (by decide) _ (fun l => idx_ok4 (i 0) l) (fun x => rfl) _ _ _ z
  · intro z; exact pieceC_ok _ _ (i 0) _ _ _ _ 20 3 (by decide) (by decide) (by decide) _ (fun l => idx_ok3 (i 0) l) (fun x => rfl) _ _ _ z
  · intro z; exact pieceC_ok _ _ (i 0) _ _ _ _ 20 2 (by decide) (by decide) (by decide) _ (fun l => idx_ok2 (i 0) l) (fun x => rfl) _ _ _ z
  · intro z; exact pieceC_ok _ _ (i 0) _ _ _ _ 20 1 (by decide) (by decide) (by decide) _ (fun l => idx_ok1 (i 0) l) (fun x => rfl) _ _ _ z
  · intro z; exact pieceC_ok _ _ (i 0) _ _ _ _ 20 0 (by decide) (by decide) (by decide) _ (fun l => idx_ok0 (i 0) l) (fun x => rfl) _ _ _ z
  · intro z; exact pieceC_ok _ _ (i 0) _ _ _ _ 19 7 (by decide) (by decide) (by decide) _ (fun l => idx_ok7 (i 0) l) (fun x => rfl) _ _ _ z
  · intro z; exact pieceC_ok _ _ (i 0) _ _ _ _ 19 6 (by decide) (by decide) (by decide) _ (fun l => idx_ok6 (i 0) l) (fun x => rfl) _ _ _ z
  · intro z; exact pieceC_ok _ _ (i 0) _ _ _ _ 19 5 (by decide) (by decide) (by decide) _ (fun l => idx_ok5 (i 0) l) (fun x => rfl) _ _ _ z
  · intro z; exact pieceC_ok _ _ (i 0) _ _ _ _ 19 4 (by decide) (by decide) (by decide) _ (fun l => idx_ok4 (i 0) l) (fun x => rfl) _ _ _ z
  · intro z; exact pieceC_ok _ _ (i 0) _ _ _ _ 19 3 (by decide) (by decide) (by decide) _ (fun l => idx_ok3 (i 0) l) (fun x => rfl) _ _ _ z
  · intro z; exact pieceC_ok _ _ (i 0) _ _ _ _ 19 2 (by decide) (by decide) (by decide) _ (fun l => idx_ok2 (i 0) l) (fun x => rfl) _ _ _ z
  · intro z; exact pieceC_ok _ _ (i 0) _ _ _ _ 19 1 (by decide) (by decide) (by decide) _ (fun l => idx_ok1 (i 0) l) (fun x => rfl) _ _ _ z
  · intro z; exact pieceC_ok _ _ (i 0) _ _ _ _ 19 0 (by decide) (by decide) (by decide) _ (fun l => idx_ok0 (i 0) l) (fun x => rfl) _ _ _ z
  · intro z; exact pieceC_ok _ _ (i 0) _ _ _ _ 18 7 (by decide) (by decide) (by decide) _ (fun l => idx_ok7 (i 0) l) (fun x => rfl) _ _ _ z
  · intro z; exact pieceC_ok _ _ (i 0) _ _ _ _ 18 6 (by decide) (by decide) (by decide) _ (fun l => idx_ok6 (i 0) l) (fun x => rfl) _ _ _ z
  · intro z; exact pieceC_ok _ _ (i 0) _ _ _ _ 18 5 (by decide) (by decide) (by decide) _ (fun l => idx_ok5 (i 0) l) (fun x => rfl) _ _ _ z
  · intro z; exact pieceC_ok _ _ (i 0) _ _ _ _ 18 4 (by decide) (by decide) (by decide) _ (fun l => idx_ok4 (i 0) l) (fun x => rfl) _ _ _ z
  · intro z; exact pieceC_ok _ _ (i 0) _ _ _ _ 18 3 (by decide) (by decide) (by decide) _ (fun l => idx_ok3 (i 0) l) (fun x => rfl) _ _ _ z
  · intro z; exact pieceC_ok _ _ (i 0) _ _ _ _ 18 2 (by decide) (by decide) (by decide) _ (fun l => idx_ok2 (i 0) l) (fun x => rfl) _ _ _ z
  · intro z; exact pieceC_ok _ _ (i 0) _ _ _ _ 18 1 (by decide) (by decide) (by decide) _ (fun l => idx_ok1 (i 0) l) (fun x => rfl) _ _ _ z
  · intro z; exact pieceC_ok _ _ (i 0) _ _ _ _ 18 0 (by decide) (by decide) (by decide) _ (fun l => idx_ok0 (i 0) l) (fun x => rfl) _ _ _ z
  · intro z; exact pieceC_ok _ _ (i 0) _ _ _ _ 17 7 (by decide) (by decide) (by decide) _ (fun l => idx_ok7 (i 0) l) (fun x => rfl) _ _ _ z
  · intro z; exact pieceC_ok _ _ (i 0) _ _ _ _ 17 6 (by decide) (by decide) (by decide) _ (fun l => idx_ok6 (i 0) l) (fun x => rfl) _ _ _ z
  · intro z; exact pieceC_ok _ _ (i 0) _ _ _ _ 17 5 (by decide) (by decide) (by decide) _ (fun l => idx_ok5 (i 0) l) (fun x => rfl) _ _ _ z
  · intro z; exact pieceC_ok _ _ (i 0) _ _ _ _ 17 4 (by decide) (by decide) (by decide) _ (fun l => idx_ok4 (i 0) l) (fun x => rfl) _ _ _ z
  · intro z; exact pieceC_ok _ _ (i 0) _ _ _ _ 17 3 (by decide) (by decide) (by decide) _ (fun l => idx_ok3 (i 0) l) (fun x => rfl) _ _ _ z
  · intro z; exact pieceC_ok _ _ (i 0) _ _ _ _ 17 2 (by decide) (by decide) (by decide) _ (fun l => idx_ok2 (i 0) l) (fun x => rfl) _ _ _ z
  · intro z; exact pieceC_ok _ _ (i 0) _ _ _ _ 17 1 (by decide) (by decide) (by decide) _ (fun l => idx_ok1 (i 0) l) (fun x => rfl) _ _ _ z
  · intro z; exact pieceC_ok _ _ (i 0) _ _ _ _ 17 0 (by decide) (by decide) (by decide) _ (fun l => idx_ok0 (i 0) l) (fun x => rfl) _ _ _ z
  · intro z; exact pieceC_ok _ _ (i 0) _ _ _ _ 16 7 (by decide) (by decide) (by decide) _ (fun l => idx_ok7 (i 0) l) (fun x => rfl) _ _ _ z
  · intro z; exact pieceC_ok _ _ (i 0) _ _ _ _ 16 6 (by decide) (by decide) (by decide) _ (fun l => idx_ok6 (i 0) l) (fun x => rfl) _ _ _ z
  · intro z; exact pieceC_ok _ _ (i 0) _ _ _ _ 16 5 (by decide) (by decide) (by decide) _ (fun l => idx_ok5 (i 0) l) (fun x => rfl) _ _ _ z
  · intro z; exact pieceC_ok _ _ (i 0) _ _ _ _ 16 4 (by decide) (by decide) (by decide) _ (fun l => idx_ok4 (i 0) l) (fun x => rfl) _ _ _ z
  · intro z; exact pieceC_ok _ _ (i 0) _ _ _ _ 16 3 (by decide) (by decide) (by decide) _ (fun l => idx_ok3 (i 0) l) (fun x => rfl) _ _ _ z
  · intro z; exact pieceC_ok _ _ (i 0) _ _ _ _ 16 2 (by decide) (by decide) (by decide) _ (fun l => idx_ok2 (i 0) l) (fun x => rfl) _ _ _ z
  · intro z; exact pieceC_ok _ _ (i 0) _ _ _ _ 16 1 (by decide) (by decide) (by decide) _ (fun l => idx_ok1 (i 0) l) (fun x => rfl) _ _ _ z
  · intro z; exact pieceC_ok _ _ (i 0) _ _ _ _ 16 0 (by decide) (by decide) (by decide) _ (fun l => idx_ok0 (i 0) l) (fun x => rfl) _ _ _ z
  · intro z; exact pieceC_ok _ _ (i 0) _ _ _ _ 15 7 (by decide) (by decide) (by decide) _ (fun l => idx_ok7 (i 0) l) (fun x => rfl) _ _ _ z
  · intro z; exact pieceC_ok _ _ (i 0) _ _ _ _ 15 6 (by decide) (by decide) (by decide) _ (fun l => idx_ok6 (i 0) l) (fun x => rfl) _ _ _ z
  · intro z; exact pieceC_ok _ _ (i 0) _ _ _ _ 15 5 (by decide) (by decide) (by decide) _ (fun l => idx_ok5 (i 0) l) (fun x => rfl) _ _ _ z
  · intro z; exact pieceC_ok _ _ (i 0) _ _ _ _ 15 4 (by decide) (by decide) (by decide) _ (fun l => idx_ok4 (i 0) l) (fun x => rfl) _ _ _ z
  · intro z; exact pieceC_ok _ _ (i 0) _ _ _ _ 15 3 (by decide) (by decide) (by decide) _ (fun l => idx_ok3 (i 0) l) (fun x => rfl) _ _ _ z
  · intro z; exact pieceC_ok _ _ (i 0) _ _ _ _ 15 2 (by decide) (by decide) (by decide) _ (fun l => idx_ok2 (i 0) l) (fun x => rfl) _ _ _ z
  · intro z; exact pieceC_ok _ _ (i 0) _ _ _ _ 15 1 (by decide) (by decide) (by decide) _ (fun l => idx_ok1 (i 0) l) (fun x => rfl) _ _ _ z
  · intro z; exact pieceC_ok _ _ (i 0) _ _ _ _ 15 0 (by decide) (by decide) (by decide) _ (fun l => idx_ok0 (i 0) l) (fun x => rfl) _ _ _ z
  · intro z; exact pieceC_ok _ _ (i 0) _ _ _ _ 14 7 (by decide) (by decide) (by decide) _ (fun l => idx_ok7 (i 0) l) (fun x => rfl) _ _ _ z
  · intro z; exact pieceC_ok _ _ (i 0) _ _ _ _ 14 6 (by decide) (by decide) (by decide) _ (fun l => idx_ok6 (i 0) l) (fun x => rfl) _ _ _ z
  · intro z; exact pieceC_ok _ _ (i 0) _ _ _ _ 14 5 (by decide) (by decide) (by decide) _ (fun l => idx_ok5 (i 0) l) (fun x => rfl) _ _ _ z
  · intro z; exact pieceC_ok _ _ (i 0) _ _ _ _ 14 4 (by decide) (by decide) (by decide) _ (fun l => idx_ok4 (i 0) l) (fun x => rfl) _ _ _ z
  · intro z; exact pieceC_ok _ _ (i 0) _ _ _ _ 14 3 (by decide) (by decide) (by decide) _ (fun l => idx_ok3 (i 0) l) (fun x => rfl) _ _ _ z
  · intro z; exact pieceC_ok _ _ (i 0) _ _ _ _ 14 2 (by decide) (by decide) (by decide) _ (fun l => idx_ok2 (i 0) l) (fun x => rfl) _ _ _ z
  · intro z; exact pieceC_ok _ _ (i 0) _ _ _ _ 14 1 (by decide) (by decide) (by decide) _ (fun l => idx_ok1 (i 0) l) (fun x => rfl) _ _ _ z
  · intro z; exact pieceC_ok _ _ (i 0) _ _ _ _ 14 0 (by decide) (by decide) (by decide) _ (fun l => idx_ok0 (i 0) l) (fun x => rfl) _ _ _ z
  · intro z; exact pieceC_ok _ _ (i 0) _ _ _ _ 13 7 (by decide) (by decide) (by decide) _ (fun l => idx_ok7 (i 0) l) (fun x => rfl) _ _ _ z
  · intro z; exact pieceC_ok _ _ (i 0) _ _ _ _ 13 6 (by decide) (by decide) (by decide) _ (fun l => idx_ok6 (i 0) l) (fun x => rfl) _ _ _ z
  · intro z; exact pieceC_ok _ _ (i 0) _ _ _ _ 13 5 (by decide) (by decide) (by decide) _ (fun l => idx_ok5 (i 0) l) (fun x => rfl) _ _ _ z
  · intro z; exact pieceC_ok _ _ (i 0) _ _ _ _ 13 4 (by decide) (by decide) (by decide) _ (fun l => idx_ok4 (i 0) l) (fun x => rfl) _ _ _ z
  · intro z; exact pieceC_ok _ _ (i 0) _ _ _ _ 13 3 (by decide) (by decide) (by decide) _ (fun l => idx_ok3 (i 0) l) (fun x => rfl) _ _ _ z
  · intro z; exact pieceC_ok _ _ (i 0) _ _ _ _ 13 2 (by decide) (by decide) (by decide) _ (fun l => idx_ok2 (i 0) l) (fun x => rfl) _ _ _ z
  · intro z; exact pieceC_ok _ _ (i 0) _ _ _ _ 13 1 (by decide) (by decide) (by decide) _ (fun l => idx_ok1 (i 0) l) (fun x => rfl) _ _ _ z
  · intro z; exact pieceC_ok _ _ (i 0) _ _ _ _ 13 0 (by decide) (by decide) (by decide) _ (fun l => idx_ok0 (i 0) l) (fun x => rfl) _ _ _ z
  · intro z; exact pieceC_ok _ _ (i 0) _ _ _ _ 12 7 (by decide) (by decide) (by decide) _ (fun l => idx_ok7 (i 0) l) (fun x => rfl) _ _ _ z
  · intro z; exact pieceC_ok _ _ (i 0) _ _ _ _ 12 6 (by decide) (by decide) (by decide) _ (fun l => idx_ok6 (i 0) l) (fun x => rfl) _ _ _ z
  · intro z; exact pieceC_ok _ _ (i 0) _ _ _ _ 12 5 (by decide) (by decide) (by decide) _ (fun l => idx_ok5 (i 0) l) (fun x => rfl) _ _ _ z
  · intro z; exact pieceC_ok _ _ (i 0) _ _ _ _ 12 4 (by decide) (by decide) (by decide) _ (fun l => idx_ok4 (i 0) l) (fun x => rfl) _ _ _ z
  · intro z; exact pieceC_ok _ _ (i 0) _ _ _ _ 12 3 (by decide) (by decide) (by decide) _ (fun l => idx_ok3 (i 0) l) (fun x => rfl) _ _ _ z
  · intro z; exact pieceC_ok _ _ (i 0) _ _ _ _ 12 2 (by decide) (by decide) (by decide) _ (fun l => idx_ok2 (i 0) l) (fun x => rfl) _ _ _ z
  · intro z; exact pieceC_ok _ _ (i 0) _ _ _ _ 12 1 (by decide) (by decide) (by decide) _ (fun l => idx_ok1 (i 0) l) (fun x => rfl) _ _ _ z
  · intro z; exact pieceC_ok _ _ (i 0) _ _ _ _ 12 0 (by decide) (by decide) (by decide) _ (fun l => idx_ok0 (i 0) l) (fun x => rfl) _ _ _ z
  · intro z; exact pieceC_ok _ _ (i 0) _ _ _ _ 11 7 (by decide) (by decide) (by decide) _ (fun l => idx_ok7 (i 0) l) (fun x => rfl) _ _ _ z
  · intro z; exact pieceC_ok _ _ (i 0) _ _ _ _ 11 6 (by decide) (by decide) (by decide) _ (fun l => idx_ok6 (i 0) l) (fun x => rfl) _ _ _ z
  · intro z; exact pieceC_ok _ _ (i 0) _ _ _ _ 11 5 (by decide) (by decide) (by decide) _ (fun l => idx_ok5 (i 0) l) (fun x => rfl) _ _ _ z
  · intro z; exact pieceC_ok _ _ (i 0) _ _ _ _ 11 4 (by decide) (by decide) (by decide) _ (fun l => idx_ok4 (i 0) l) (fun x => rfl) _ _ _ z
  · intro z; exact pieceC_ok _ _ (i 0) _ _ _ _ 11 3 (by decide) (by decide) (by decide) _ (fun l => idx_ok3 (i 0) l) (fun x => rfl) _ _ _ z
  · intro z; exact pieceC_ok _ _ (i 0) _ _ _ _ 11 2 (by decide) (by decide) (by decide) _ (fun l => idx_ok2 (i 0) l) (fun x => rfl) _ _ _ z
  · intro z; exact pieceC_ok _ _ (i 0) _ _ _ _ 11 1 (by decide) (by decide) (by decide) _ (fun l => idx_ok1 (i 0) l) (fun x => rfl) _ _ _ z
  · intro z; exact pieceC_ok _ _ (i 0) _ _ _ _ 11 0 (by decide) (by decide) (by decide) _ (fun l => idx_ok0 (i 0) l) (fun x => rfl) _ _ _ z
  · intro z; exact pieceC_ok _ _ (i 0) _ _ _ _ 10 7 (by decide) (by decide) (by decide) _ (fun l => idx_ok7 (i 0) l) (fun x => rfl) _ _ _ z
  · intro z; exact pieceC_ok _ _ (i 0) _ _ _ _ 10 6 (by decide) (by decide) (by decide) _ (fun l => idx_ok6 (i 0) l) (fun x => rfl) _ _ _ z
  · intro z; exact pieceC_ok _ _ (i 0) _ _ _ _ 10 5 (by decide) (by decide) (by decide) _ (fun l => idx_ok5 (i 0) l) (fun x => rfl) _ _ _ z
  · intro z; exact pieceC_ok _ _ (i 0) _ _ _ _ 10 4 (by decide) (by decide) (by decide) _ (fun l => idx_ok4 (i 0) l) (fun x => rfl) _ _ _ z
  · intro z; exact pieceC_ok _ _ (i 0) _ _ _ _ 10 3 (by decide) (by decide) (by decide) _ (fun l => idx_ok3 (i 0) l) (fun x => rfl) _ _ _ z
  · intro z; exact pieceC_ok _ _ (i 0) _ _ _ _ 10 2 (by decide) (by decide) (by decide) _ (fun l => idx_ok2 (i 0) l) (fun x => rfl) _ _ _ z
  · intro z; exact pieceC_ok _ _ (i 0) _ _ _ _ 10 1 (by decide) (by decide) (by decide) _ (fun l => idx_ok1 (i 0) l) (fun x => rfl) _ _ _ z
  · intro z; exact pieceC_ok _ _ (i 0) _ _ _ _ 10 0 (by decide) (by decide) (by decide) _ (fun l => idx_ok0 (i 0) l) (fun x => rfl) _ _ _ z
  · intro z; exact pieceC_ok _ _ (i 0) _ _ _ _ 9 7 (by decide) (by decide) (by decide) _ (fun l => idx_ok7 (i 0) l) (fun x => rfl) _ _ _ z
  · intro z; exact pieceC_ok _ _ (i 0) _ _ _ _ 9 6 (by decide) (by decide) (by decide) _ (fun l => idx_ok6 (i 0) l) (fun x => rfl) _ _ _ z
  · intro z; exact pieceC_ok _ _ (i 0) _ _ _ _ 9 5 (by decide) (by decide) (by decide) _ (fun l => idx_ok5 (i 0) l) (fun x => rfl) _ _ _ z
  · intro z; exact pieceC_ok _ _ (i 0) _ _ _ _ 9 4 (by decide) (by decide) (by decide) _ (fun l => idx_ok4 (i 0) l) (fun x => rfl) _ _ _ z
  · intro z; exact pieceC_ok _ _ (i 0) _ _ _ _ 9 3 (by decide) (by decide) (by decide) _ (fun l => idx_ok3 (i 0) l) (fun x => rfl) _ _ _ z
  · intro z; exact pieceC_ok _ _ (i 0) _ _ _ _ 9 2 (by decide) (by decide) (by decide) _ (fun l => idx_ok2 (i 0) l) (fun x => rfl) _ _ _ z
  · intro z; exact pieceC_ok _ _ (i 0) _ _ _ _ 9 1 (by decide) (by decide) (by decide) _ (fun l => idx_ok1 (i 0) l) (fun x => rfl) _ _ _ z
  · intro z; exact pieceC_ok _ _ (i 0) _ _ _ _ 9 0 (by decide) (by decide) (by decide) _ (fun l => idx_ok0 (i 0) l) (fun x => rfl) _ _ _ z
  · intro z; exact pieceC_ok _ _ (i 0) _ _ _ _ 8 7 (by decide) (by decide) (by decide) _ (fun l => idx_ok7 (i 0) l) (fun x => rfl) _ _ _ z
  · intro z; exact pieceC_ok _ _ (i 0) _ _ _ _ 8 6 (by decide) (by decide) (by decide) _ (fun l => idx_ok6 (i 0) l) (fun x => rfl) _ _ _ z
  · intro z; exact pieceC_ok _ _ (i 0) _ _ _ _ 8 5 (by decide) (by decide) (by decide) _ (fun l => idx_ok5 (i 0) l) (fun x => rfl) _ _ _ z
  · intro z; exact pieceC_ok _ _ (i 0) _ _ _ _ 8 4 (by decide) (by decide) (by decide) _ (fun l => idx_ok4 (i 0) l) (fun x => rfl) _ _ _ z
  · intro z; exact pieceC_ok _ _ (i 0) _ _ _ _ 8 3 (by decide) (by decide) (by decide) _ (fun l => idx_ok3 (i 0) l) (fun x => rfl) _ _ _ z
  · intro z; exact pieceC_ok _ _ (i 0) _ _ _ _ 8 2 (by decide) (by decide) (by decide) _ (fun l => idx_ok2 (i 0) l) (fun x => rfl) _ _ _ z
  · intro z; exact pieceC_ok _ _ (i 0) _ _ _ _ 8 1 (by decide) (by decide) (by decide) _ (fun l => idx_ok1 (i 0) l) (fun x => rfl) _ _ _ z
  · intro z; exact pieceC_ok _ _ (i 0) _ _ _ _ 8 0 (by decide) (by decide) (by decide) _ (fun l => idx_ok0 (i 0) l) (fun x => rfl) _ _ _ z
  · intro z; exact pieceC_ok _ _ (i 0) _ _ _ _ 7 7 (by decide) (by decide) (by decide) _ (fun l => idx_ok7 (i 0) l) (fun x => rfl) _ _ _ z
  · intro z; exact pieceC_ok _ _ (i 0) _ _ _ _ 7 6 (by decide) (by decide) (by decide) _ (fun l => idx_ok6 (i 0) l) (fun x => rfl) _ _ _ z
  · intro z; exact pieceC_ok _ _ (i 0) _ _ _ _ 7 5 (by decide) (by decide) (by decide) _ (fun l => idx_ok5 (i 0) l) (fun x => rfl) _ _ _ z
  · intro z; exact pieceC_ok _ _ (i 0) _ _ _ _ 7 4 (by decide) (by decide) (by decide) _ (fun l => idx_ok4 (i 0) l) (fun x => rfl) _ _ _ z
  · intro z; exact pieceC_ok _ _ (i 0) _ _ _ _ 7 3 (by decide) (by decide) (by decide) _ (fun l => idx_ok3 (i 0) l) (fun x => rfl) _ _ _ z
  · intro z; exact pieceC_ok _ _ (i 0) _ _ _ _ 7 2 (by decide) (by decide) (by decide) _ (fun l => idx_ok2 (i 0) l) (fun x => rfl) _ _ _ z
  · intro z; exact pieceC_ok _ _ (i 0) _ _ _ _ 7 1 (by decide) (by decide) (by decide) _ (fun l => idx_ok1 (i 0) l) (fun x => rfl) _ _ _ z
  · intro z; exact pieceC_ok _ _ (i 0) _ _ _ _ 7 0 (by decide) (by decide) (by decide) _ (fun l => idx_ok0 (i 0) l) (fun x => rfl) _ _ _ z
  · intro z; exact pieceC_ok _ _ (i 0) _ _ _ _ 6 7 (by decide) (by decide) (by decide) _ (fun l => idx_ok7 (i 0) l) (fun x => rfl) _ _ _ z
  · intro z; exact pieceC_ok _ _ (i 0) _ _ _ _ 6 6 (by decide) (by decide) (by decide) _ (fun l => idx_ok6 (i 0) l) (fun x => rfl) _ _ _ z
  · intro z; exact pieceC_ok _ _ (i 0) _ _ _ _ 6 5 (by decide) (by decide) (by decide) _ (fun l => idx_ok5 (i 0) l) (fun x => rfl) _ _ _ z
  · intro z; exact pieceC_ok _ _ (i 0) _ _ _ _ 6 4 (by decide) (by decide) (by decide) _ (fun l => idx_ok4 (i 0) l) (fun x => rfl) _ _ _ z
  · intro z; exact pieceC_ok _ _ (i 0) _ _ _ _ 6 3 (by decide) (by decide) (by decide) _ (fun l => idx_ok3 (i 0) l) (fun x => rfl) _ _ _ z
  · intro z; exact pieceC_ok _ _ (i 0) _ _ _ _ 6 2 (by decide) (by decide) (by decide) _ (fun l => idx_ok2 (i 0) l) (fun x => rfl) _ _ _ z
  · intro z; exact pieceC_ok _ _ (i 0) _ _ _ _ 6 1 (by decide) (by decide) (by decide) _ (fun l => idx_ok1 (i 0) l) (fun x => rfl) _ _ _ z
  · intro z; exact pieceC_ok _ _ (i 0) _ _ _ _ 6 0 (by decide) (by decide) (by decide) _ (fun l => idx_ok0 (i 0) l) (fun x => rfl) _ _ _ z
  · intro z; exact pieceC_ok _ _ (i 0) _ _ _ _ 5 7 (by decide) (by decide) (by decide) _ (fun l => idx_ok7 (i 0) l) (fun x => rfl) _ _ _ z
  · intro z; exact pieceC_ok _ _ (i 0) _ _ _ _ 5 6 (by decide) (by decide) (by decide) _ (fun l => idx_ok6 (i 0) l) (fun x => rfl) _ _ _ z
  · intro z; exact pieceC_ok _ _ (i 0) _ _ _ _ 5 5 (by decide) (by decide) (by decide) _ (fun l => idx_ok5 (i 0) l) (fun x => rfl) _ _ _ z
  · intro z; exact pieceC_ok _ _ (i 0) _ _ _ _ 5 4 (by decide) (by decide) (by decide) _ (fun l => idx_ok4 (i 0) l) (fun x => rfl) _ _ _ z
  · intro z; exact pieceC_ok _ _ (i 0) _ _ _ _ 5 3 (by decide) (by decide) (by decide) _ (fun l => idx_ok3 (i 0) l) (fun x => rfl) _ _ _ z
  · intro z; exact pieceC_ok _ _ (i 0) _ _ _ _ 5 2 (by decide) (by decide) (by decide) _ (fun l => idx_ok2 (i 0) l) (fun x => rfl) _ _ _ z
  · intro z; exact pieceC_ok _ _ (i 0) _ _ _ _ 5 1 (by decide) (by decide) (by decide) _ (fun l => idx_ok1 (i 0) l) (fun x => rfl) _ _ _ z
  · intro z; exact pieceC_ok _ _ (i 0) _ _ _ _ 5 0 (by decide) (by decide) (by decide) _ (fun l => idx_ok0 (i 0) l) (fun x => rfl) _ _ _ z
  · intro z; exact pieceC_ok _ _ (i 0) _ _ _ _ 4 7 (by decide) (by decide) (by decide) _ (fun l => idx_ok7 (i 0) l) (fun x => rfl) _ _ _ z
  · intro z; exact pieceC_ok _ _ (i 0) _ _ _ _ 4 6 (by decide) (by decide) (by decide) _ (fun l => idx_ok6 (i 0) l) (fun x => rfl) _ _ _ z
  · intro z; exact pieceC_ok _ _ (i 0) _ _ _ _ 4 5 (by decide) (by decide) (by decide) _ (fun l => idx_ok5 (i 0) l) (fun x => rfl) _ _ _ z
  · intro z; exact pieceC_ok _ _ (i 0) _ _ _ _ 4 4 (by decide) (by decide) (by decide) _ (fun l => idx_ok4 (i 0) l) (fun x => rfl) _ _ _ z
  · intro z; exact pieceC_ok _ _ (i 0) _ _ _ _ 4 3 (by decide) (by decide) (by decide) _ (fun l => idx_ok3 (i 0) l) (fun x => rfl) _ _ _ z
  · intro z; exact pieceC_ok _ _ (i 0) _ _ _ _ 4 2 (by decide) (by decide) (by decide) _ (fun l => idx_ok2 (i 0) l) (fun x => rfl) _ _ _ z
  · intro z; exact pieceC_ok _ _ (i 0) _ _ _ _ 4 1 (by decide) (by decide) (by decide) _ (fun l => idx_ok1 (i 0) l) (fun x => rfl) _ _ _ z
  · intro z; exact pieceC_ok _ _ (i 0) _ _ _ _ 4 0 (by decide) (by decide) (by decide) _ (fun l => idx_ok0 (i 0) l) (fun x => rfl) _ _ _ z
  · intro z; exact pieceC_ok _ _ (i 0) _ _ _ _ 3 7 (by decide) (by decide) (by decide) _ (fun l => idx_ok7 (i 0) l) (fun x => rfl) _ _ _ z
  · intro z; exact pieceC_ok _ _ (i 0) _ _ _ _ 3 6 (by decide) (by decide) (by decide) _ (fun l => idx_ok6 (i 0) l) (fun x => rfl) _ _ _ z
  · intro z; exact pieceC_ok _ _ (i 0) _ _ _ _ 3 5 (by decide) (by decide) (by decide) _ (fun l => idx_ok5 (i 0) l) (fun x => rfl) _ _ _ z
  · intro z; exact pieceC_ok _ _ (i 0) _ _ _ _ 3 4 (by decide) (by decide) (by decide) _ (fun l => idx_ok4 (i 0) l) (fun x => rfl) _ _ _ z
  · intro z; exact pieceC_ok _ _ (i 0) _ _ _ _ 3 3 (by decide) (by decide) (by decide) _ (fun l => idx_ok3 (i 0) l) (fun x => rfl) _ _ _ z
  · intro z; exact pieceC_ok _ _ (i 0) _ _ _ _ 3 2 (by decide) (by decide) (by decide) _ (fun l => idx_ok2 (i 0) l) (fun x => rfl) _ _ _ z
  · intro z; exact pieceC_ok _ _ (i 0) _ _ _ _ 3 1 (by decide) (by decide) (by decide) _ (fun l => idx_ok1 (i 0) l) (fun x => rfl) _ _ _ z
  · intro z; exact pieceC_ok _ _ (i 0) _ _ _ _ 3 0 (by decide) (by decide) (by decide) _ (fun l => idx_ok0 (i 0) l) (fun x => rfl) _ _ _ z
  · intro z; exact pieceC_ok _ _ (i 0) _ _ _ _ 2 7 (by decide) (by decide) (by decide) _ (fun l => idx_ok7 (i 0) l) (fun x => rfl) _ _ _ z
  · intro z; exact pieceC_ok _ _ (i 0) _ _ _ _ 2 6 (by decide) (by decide) (by decide) _ (fun l => idx_ok6 (i 0) l) (fun x => rfl) _ _ _ z
  · intro z; exact pieceC_ok _ _ (i 0) _ _ _ _ 2 5 (by decide) (by decide) (by decide) _ (fun l => idx_ok5 (i 0) l) (fun x => rfl) _ _ _ z
  · intro z; exact pieceC_ok _ _ (i 0) _ _ _ _ 2 4 (by decide) (by decide) (by decide) _ (fun l => idx_ok4 (i 0) l) (fun x => rfl) _ _ _ z
  · intro z; exact pieceC_ok _ _ (i 0) _ _ _ _ 2 3 (by decide) (by decide) (by decide) _ (fun l => idx_ok3 (i 0) l) (fun x => rfl) _ _ _ z
  · intro z; exact pieceC_ok _ _ (i 0) _ _ _ _ 2 2 (by decide) (by decide) (by decide) _ (fun l => idx_ok2 (i 0) l) (fun x => rfl) _ _ _ z
  · intro z; exact pieceC_ok _ _ (i 0) _ _ _ _ 2 1 (by decide) (by decide) (by decide) _ (fun l => idx_ok1 (i 0) l) (fun x => rfl) _ _ _ z
  · intro z; exact pieceC_ok _ _ (i 0) _ _ _ _ 2 0 (by decide) (by decide) (by decide) _ (fun l => idx_ok0 (i 0) l) (fun x => rfl) _ _ _ z
  · intro z; exact pieceC_ok _ _ (i 0) _ _ _ _ 1 7 (by decide) (by decide) (by decide) _ (fun l => idx_ok7 (i 0) l) (fun x => rfl) _ _ _ z
  · intro z; exact pieceC_ok _ _ (i 0) _ _ _ _ 1 6 (by decide) (by decide) (by decide) _ (fun l => idx_ok6 (i 0) l) (fun x => rfl) _ _ _ z
  · intro z; exact pieceC_ok _ _ (i 0) _ _ _ _ 1 5 (by decide) (by decide) (by decide) _ (fun l => idx_ok5 (i 0) l) (fun x => rfl) _ _ _ z
  · intro z; exact pieceC_ok _ _ (i 0) _ _ _ _ 1 4 (by decide) (by decide) (by decide) _ (fun l => idx_ok4 (i 0) l) (fun x => rfl) _ _ _ z
  · intro z; exact pieceC_ok _ _ (i 0) _ _ _ _ 1 3 (by decide) (by decide) (by decide) _ (fun l => idx_ok3 (i 0) l) (fun x => rfl) _ _ _ z
  · intro z; exact pieceC_ok _ _ (i 0) _ _ _ _ 1 2 (by decide) (by decide) (by decide) _ (fun l => idx_ok2 (i 0) l) (fun x => rfl) _ _ _ z
  · intro z; exact pieceC_ok _ _ (i 0) _ _ _ _ 1 1 (by decide) (by decide) (by decide) _ (fun l => idx_ok1 (i 0) l) (fun x => rfl) _ _ _ z
  · intro z; exact pieceC_ok _ _ (i 0) _ _ _ _ 1 0 (by decide) (by decide) (by decide) _ (fun l => idx_ok0 (i 0) l) (fun x => rfl) _ _ _ z
  · intro z; exact pieceC_ok _ _ (i 0) _ _ _ _ 0 7 (by decide) (by decide) (by decide) _ (fun l => idx_ok7 (i 0) l) (fun x => rfl) _ _ _ z
  · intro z; exact pieceC_ok _ _ (i 0) _ _ _ _ 0 6 (by decide) (by decide) (by decide) _ (fun l => idx_ok6 (i 0) l) (fun x => rfl) _ _ _ z
  · intro z; exact pieceC_ok _ _ (i 0) _ _ _ _ 0 5 (by decide) (by decide) (by decide) _ (fun l => idx_ok5 (i 0) l) (fun x => rfl) _ _ _ z
  · intro z; exact pieceC_ok _ _ (i 0) _ _ _ _ 0 4 (by decide) (by decide) (by decide) _ (fun l => idx_ok4 (i 0) l) (fun x => rfl) _ _ _ z
  · intro z; exact pieceC_ok _ _ (i 0) _ _ _ _ 0 3 (by decide) (by decide) (by decide) _ (fun l => idx_ok3 (i 0) l) (fun x => rfl) _ _ _ z
  · intro z; exact pieceC_ok _ _ (i 0) _ _ _ _ 0 2 (by decide) (by decide) (by decide) _ (fun l => idx_ok2 (i 0) l) (fun x => rfl) _ _ _ z
  · intro z; exact pieceC_ok _ _ (i 0) _ _ _ _ 0 1 (by decide) (by decide) (by decide) _ (fun l => idx_ok1 (i 0) l) (fun x => rfl) _ _ _ z
  · intro z; exact pieceC_ok _ _ (i 0) _ _ _ _ 0 0 (by decide) (by decide) (by decide) _ (fun l => idx_ok0 (i 0) l) (fun x => rfl) _ _ _ z

end Cert.DwInIdeal.Gen
end
-- ==== Proof.DwIn.Out.lean ====
/-
What one grid point of the weight-gradient kernel adds to its two output blocks, over the extended reals.
-/
module

public import proofs.«01_k».proof.Proof.DwIn.Scratch
public import Idealize.ShloMosaic.Lib.Pipeline.ValueKit.Geometry
public import Idealize.ShloMosaic.Lib.Pipeline.ValueKit.Acc
public import Idealize.ShloMosaic.Lib.Pointwise

@[expose] public section

set_option maxRecDepth 16384
set_option maxHeartbeats 4000000

noncomputable section

namespace Cert.DwInIdeal.Gen

open Idealize.ShloMosaic Idealize.ShloMosaic.TcCoe Idealize.ShloMosaic.Tactic
open Idealize.SL Idealize.SL.RA Idealize.SL.BI

/-- Offsets that are zero on both axes. -/
theorem zero2 : (![0, 0] : Fin 2 → ℕ) = fun _ => 0 := by decide

/-- The product one grid point adds: rows of the first operand's transpose against the second. -/
def prodG (P : S768x1024.Idx → EReal) (Q : S768x2048.Idx → EReal) : S1024x2048.Idx → EReal :=
  fun y => ∑ k : Fin 768, P (ix2 k (y 0)) * Q (ix2 k (y 1))

/-- The first accumulation over one block of tokens, at an index. -/
theorem pay735_apply (a : Vec Ideal S1024x2048 .f32) (P : Vec Ideal S768x1024 .bf16) (Q : Vec Ideal S768x2048 .bf16) (r : Fin 1024) (l : Fin 2048) :
    k0_pay735 (F := Ideal) a P Q (ix2 r l) = a (ix2 r l) + ∑ k : Fin 768, P (ix2 k r) * Q (ix2 k l) := by
  pointwise [k0_pay735]

/-- The second accumulation over one block of tokens, at an index. -/
theorem pay736_apply (a : Vec Ideal S1024x2048 .f32) (P : Vec Ideal S768x1024 .bf16) (Q : Vec Ideal S768x2048 .bf16) (r : Fin 1024) (l : Fin 2048) :
    k0_pay736 (F := Ideal) a P Q (ix2 r l) = a (ix2 r l) + ∑ k : Fin 768, P (ix2 k r) * Q (ix2 k l) := by
  pointwise [k0_pay736]

/-- A whole-buffer load of stores that cover the buffer with tiles of `G` is `G`. -/
theorem readCov_tiles {κ : Kind} {sp : Space} {S : Shape} {e : EltTy} (v : View sig κ sp S e) (L : List (View.Piece (Elt Ideal) S e)) (G : S.Idx → Elt Ideal e)
    (hG : ∀ p ∈ L, ∀ z : p.1.shape.Idx, p.2 z = G (p.1.emb z)) (hc : ∀ y, ∃ pc ∈ L, y ∈ pc.1.set)
    (off : Fin S.rank → ℕ) (inb : ∀ a, off a + S.size a ≤ S.size a) (h : off = fun _ => 0) :
    v.readCov L (Rect.unit (s := S) off S.size inb).toLoadRect = G := by
  refine (View.readCov_eq_canon_ld v L (Rect.unit (s := S) off S.size inb) hc).trans ?_
  rw [View.ld_unit_zero h]
  funext y
  exact View.canon_apply_of_pieces _ _ hG y (hc y)

/-- Scratch `arg10` as the product reads it. -/
theorem scr0_B (c : Dev nD) (i : grid0.Coords) (arg2 : Memref sig .tc .vmem S768x1024 .fp8e4m3) (harg2 : arg2.IsWhole) (arg3 : Memref sig .tc .vmem S768x128 .f32) (harg3 : arg3.IsWhole) (arg10 : Memref sig .tc .vmem S768x1024 .bf16) (x0 : Vec Ideal S768x1024 .fp8e4m3) (x1 : Vec Ideal S768x128 .f32) :
    kernelRun0_B.sl.v8837 (F := Ideal) c i arg2 harg2 arg3 harg3 arg10 x0 x1 = expandC (i 0) x0 x1 := by
  have hc : ∀ y, ∃ pc ∈ (kernelRun0_B.sl.HS0_192 (F := Ideal) c i arg2 harg2 arg3 harg3 x0 x1), y ∈ pc.1.set := fun y =>
    View.cover_of_tiledL (kernelRun0_B.sl.HS0_192 (F := Ideal) c i arg2 harg2 arg3 harg3 x0 x1) S32x128.size (by sl_kernel_rfl) y
  refine (readCov_tiles _ (kernelRun0_B.sl.HS0_192 (F := Ideal) c i arg2 harg2 arg3 harg3 x0 x1) _ (tiles0 c i arg2 harg2 arg3 harg3 x0 x1) hc _ _ zero2).trans ?_
  rw [harg2.read_unread, harg3.read_unread]

/-- Scratch `arg11` as the product reads it. -/
theorem scr1_B (c : Dev nD) (arg4 : Memref sig .tc .vmem S768x2048 .fp8e5m2) (harg4 : arg4.IsWhole) (arg5 : Memref sig .tc .vmem S24x2048 .f32) (harg5 : arg5.IsWhole) (arg11 : Memref sig .tc .vmem S768x2048 .bf16) (x2 : Vec Ideal S768x2048 .fp8e5m2) (x3 : Vec Ideal S24x2048 .f32) :
    kernelRun0_B.sl.v8838 (F := Ideal) c arg4 harg4 arg5 harg5 arg11 x2 x3 = expandR x2 x3 := by
  have hc : ∀ y, ∃ pc ∈ (kernelRun0_B.sl.HS1_24 (F := Ideal) c arg4 harg4 arg5 harg5 x2 x3), y ∈ pc.1.set := fun y =>
    View.cover_of_tiledL (kernelRun0_B.sl.HS1_24 (F := Ideal) c arg4 harg4 arg5 harg5 x2 x3) S32x2048.size (by sl_kernel_rfl) y
  refine (readCov_tiles _ (kernelRun0_B.sl.HS1_24 (F := Ideal) c arg4 harg4 arg5 harg5 x2 x3) _ (tiles1 c arg4 harg4 arg5 harg5 x2 x3) hc _ _ zero2).trans ?_
  rw [harg4.read_unread, harg5.read_unread]

/-- Scratch `arg12` as the product reads it. -/
theorem scr2_B (c : Dev nD) (arg6 : Memref sig .tc .vmem S768x2048 .fp8e5m2) (harg6 : arg6.IsWhole) (arg7 : Memref sig .tc .vmem S24x2048 .f32) (harg7 : arg7.IsWhole) (arg12 : Memref sig .tc .vmem S768x2048 .bf16) (x4 : Vec Ideal S768x2048 .fp8e5m2) (x5 : Vec Ideal S24x2048 .f32) :
    kernelRun0_B.sl.v8845 (F := Ideal) c arg6 harg6 arg7 harg7 arg12 x4 x5 = expandR x4 x5 := by
  have hc : ∀ y, ∃ pc ∈ (kernelRun0_B.sl.HS2_24 (F := Ideal) c arg6 harg6 arg7 harg7 x4 x5), y ∈ pc.1.set := fun y =>
    View.cover_of_tiledL (kernelRun0_B.sl.HS2_24 (F := Ideal) c arg6 harg6 arg7 harg7 x4 x5) S32x2048.size (by sl_kernel_rfl) y
  refine (readCov_tiles _ (kernelRun0_B.sl.HS2_24 (F := Ideal) c arg6 harg6 arg7 harg7 x4 x5) _ (tiles2 c arg6 harg6 arg7 harg7 x4 x5) hc _ _ zero2).trans ?_
  rw [harg6.read_unread, harg7.read_unread]

/-- Scratch `arg10` as the product reads it. -/
theorem scr0_A (c : Dev nD) (i : grid0.Coords) (arg2 : Memref sig .tc .vmem S768x1024 .fp8e4m3) (harg2 : arg2.IsWhole) (arg3 : Memref sig .tc .vmem S768x128 .f32) (harg3 : arg3.IsWhole) (arg10 : Memref sig .tc .vmem S768x1024 .bf16) (x0 : Vec Ideal S768x1024 .fp8e4m3) (x1 : Vec Ideal S768x128 .f32) :
    kernelRun0_A.sl.v8837 (F := Ideal) c i arg2 harg2 arg3 harg3 arg10 x0 x1 = expandC (i 0) x0 x1 := by
  have hc : ∀ y, ∃ pc ∈ (kernelRun0_A.sl.HS0_192 (F := Ideal) c i arg2 harg2 arg3 harg3 x0 x1), y ∈ pc.1.set := fun y =>
    View.cover_of_tiledL (kernelRun0_A.sl.HS0_192 (F := Ideal) c i arg2 harg2 arg3 harg3 x0 x1) S32x128.size (by sl_kernel_rfl) y
  refine (readCov_tiles _ (kernelRun0_A.sl.HS0_192 (F := Ideal) c i arg2 harg2 arg3 harg3 x0 x1) _ (tiles0 c i arg2 harg2 arg3 harg3 x0 x1) hc _ _ zero2).trans ?_
  rw [harg2.read_unread, harg3.read_unread]

/-- Scratch `arg11` as the product reads it. -/
theorem scr1_A (c : Dev nD) (arg4 : Memref sig .tc .vmem S768x2048 .fp8e5m2) (harg4 : arg4.IsWhole) (arg5 : Memref sig .tc .vmem S24x2048 .f32) (harg5 : arg5.IsWhole) (arg11 : Memref sig .tc .vmem S768x2048 .bf16) (x2 : Vec Ideal S768x2048 .fp8e5m2) (x3 : Vec Ideal S24x2048 .f32) :
    kernelRun0_A.sl.v8838 (F := Ideal) c arg4 harg4 arg5 harg5 arg11 x2 x3 = expandR x2 x3 := by
  have hc : ∀ y, ∃ pc ∈ (kernelRun0_A.sl.HS1_24 (F := Ideal) c arg4 harg4 arg5 harg5 x2 x3), y ∈ pc.1.set := fun y =>
    View.cover_of_tiledL (kernelRun0_A.sl.HS1_24 (F := Ideal) c arg4 harg4 arg5 harg5 x2 x3) S32x2048.size (by sl_kernel_rfl) y
  refine (readCov_tiles _ (kernelRun0_A.sl.HS1_24 (F := Ideal) c arg4 harg4 arg5 harg5 x2 x3) _ (tiles1 c arg4 harg4 arg5 harg5 x2 x3) hc _ _ zero2).trans ?_
  rw [harg4.read_unread, harg5.read_unread]

/-- Scratch `arg12` as the product reads it. -/
theorem scr2_A (c : Dev nD) (arg6 : Memref sig .tc .vmem S768x2048 .fp8e5m2) (harg6 : arg6.IsWhole) (arg7 : Memref sig .tc .vmem S24x2048 .f32) (harg7 : arg7.IsWhole) (arg12 : Memref sig .tc .vmem S768x2048 .bf16) (x4 : Vec Ideal S768x2048 .fp8e5m2) (x5 : Vec Ideal S24x2048 .f32) :
    kernelRun0_A.sl.v8845 (F := Ideal) c arg6 harg6 arg7 harg7 arg12 x4 x5 = expandR x4 x5 := by
  have hc : ∀ y, ∃ pc ∈ (kernelRun0_A.sl.HS2_24 (F := Ideal) c arg6 harg6 arg7 harg7 x4 x5), y ∈ pc.1.set := fun y =>
    View.cover_of_tiledL (kernelRun0_A.sl.HS2_24 (F := Ideal) c arg6 harg6 arg7 harg7 x4 x5) S32x2048.size (by sl_kernel_rfl) y
  refine (readCov_tiles _ (kernelRun0_A.sl.HS2_24 (F := Ideal) c arg6 harg6 arg7 harg7 x4 x5) _ (tiles2 c arg6 harg6 arg7 harg7 x4 x5) hc _ _ zero2).trans ?_
  rw [harg6.read_unread, harg7.read_unread]

/-- The first output block after a later block of tokens: what it held plus the block's product. -/
theorem outB6 (c : Dev nD) (i : grid0.Coords) (arg2 : Memref sig .tc .vmem S768x1024 .fp8e4m3) (harg2 : arg2.IsWhole) (arg3 : Memref sig .tc .vmem S768x128 .f32) (harg3 : arg3.IsWhole) (arg4 : Memref sig .tc .vmem S768x2048 .fp8e5m2) (harg4 : arg4.IsWhole) (arg5 : Memref sig .tc .vmem S24x2048 .f32) (harg5 : arg5.IsWhole) (arg6 : Memref sig .tc .vmem S768x2048 .fp8e5m2) (harg6 : arg6.IsWhole) (arg7 : Memref sig .tc .vmem S24x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S768x1024 .bf16) (harg10 : arg10.IsWhole) (arg11 : Memref sig .tc .vmem S768x2048 .bf16) (harg11 : arg11.IsWhole) (arg12 : Memref sig .tc .vmem S768x2048 .bf16) (harg12 : arg12.IsWhole) (hc0 : ¬cond0_0 i)     (x0 : Vec Ideal S768x1024 .fp8e4m3) (x1 : Vec Ideal S768x128 .f32) (x2 : Vec Ideal S768x2048 .fp8e5m2) (x3 : Vec Ideal S24x2048 .f32) (x4 : Vec Ideal S768x2048 .fp8e5m2) (x5 : Vec Ideal S24x2048 .f32) (xo6 : Vec Ideal S1024x2048 .f32) (xo7 : Vec Ideal S1024x2048 .f32) :
    out0_B_6 (F := Ideal) c i arg2 harg2 arg3 harg3 arg4 harg4 arg5 harg5 arg6 harg6 arg7 harg7 arg8 harg8 arg9 harg9 arg10 harg10 arg11 harg11 arg12 harg12 hc0 x0 x1 x2 x3 x4 x5 xo6 xo7 = fun y => xo6 y + prodG (expandC (i 0) x0 x1) (expandR x2 x3) y := by
  unfold out0_B_6
  rw [View.read_writes_eq_canon _ _ _ (cover0_B_6 (F := Ideal) c i arg2 harg2 arg3 harg3 arg4 harg4 arg5 harg5 arg6 harg6 arg7 harg7 arg8 harg8 arg9 harg9 arg10 harg10 arg11 harg11 arg12 harg12 hc0 x0 x1 x2 x3 x4 x5 xo6 xo7)]
  unfold kernelRun0_B
  dsimp only
  rw [View.canon_unit_zero zero2 _ _, scr0_B, scr1_B]
  have h := (View.readAt_eq_ld arg8.view (harg8.unread xo6) (Rect.unit (s := S1024x2048) ![0, 0] S1024x2048.size inb_S1024x2048_S1024x2048_0_0)).trans (View.ld_unit_zero zero2 _ _)
  funext y
  rw [eq_ix2 y]
  refine (pay735_apply _ _ _ (y 0) (y 1)).trans ?_
  refine congrArg (fun t : EReal => t + _) ?_
  refine (congrFun h _).trans ?_
  rw [harg8.read_unread]

/-- The second output block after a later block of tokens: what it held plus the block's product. -/
theorem outB7 (c : Dev nD) (i : grid0.Coords) (arg2 : Memref sig .tc .vmem S768x1024 .fp8e4m3) (harg2 : arg2.IsWhole) (arg3 : Memref sig .tc .vmem S768x128 .f32) (harg3 : arg3.IsWhole) (arg4 : Memref sig .tc .vmem S768x2048 .fp8e5m2) (harg4 : arg4.IsWhole) (arg5 : Memref sig .tc .vmem S24x2048 .f32) (harg5 : arg5.IsWhole) (arg6 : Memref sig .tc .vmem S768x2048 .fp8e5m2) (harg6 : arg6.IsWhole) (arg7 : Memref sig .tc .vmem S24x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S768x1024 .bf16) (harg10 : arg10.IsWhole) (arg11 : Memref sig .tc .vmem S768x2048 .bf16) (harg11 : arg11.IsWhole) (arg12 : Memref sig .tc .vmem S768x2048 .bf16) (harg12 : arg12.IsWhole) (hc0 : ¬cond0_0 i)     (x0 : Vec Ideal S768x1024 .fp8e4m3) (x1 : Vec Ideal S768x128 .f32) (x2 : Vec Ideal S768x2048 .fp8e5m2) (x3 : Vec Ideal S24x2048 .f32) (x4 : Vec Ideal S768x2048 .fp8e5m2) (x5 : Vec Ideal S24x2048 .f32) (xo6 : Vec Ideal S1024x2048 .f32) (xo7 : Vec Ideal S1024x2048 .f32) :
    out0_B_7 (F := Ideal) c i arg2 harg2 arg3 harg3 arg4 harg4 arg5 harg5 arg6 harg6 arg7 harg7 arg8 harg8 arg9 harg9 arg10 harg10 arg11 harg11 arg12 harg12 hc0 x0 x1 x2 x3 x4 x5 xo6 xo7 = fun y => xo7 y + prodG (expandC (i 0) x0 x1) (expandR x4 x5) y := by
  unfold out0_B_7
  rw [View.read_writes_eq_canon _ _ _ (cover0_B_7 (F := Ideal) c i arg2 harg2 arg3 harg3 arg4 harg4 arg5 harg5 arg6 harg6 arg7 harg7 arg8 harg8 arg9 harg9 arg10 harg10 arg11 harg11 arg12 harg12 hc0 x0 x1 x2 x3 x4 x5 xo6 xo7)]
  unfold kernelRun0_B
  dsimp only
  rw [View.canon_unit_zero zero2 _ _]
  unfold kernelRun0_B.sl.r_270
  try rw [scr0_B, scr2_B]
  have h := (View.readAt_eq_ld arg9.view (harg9.unread xo7) (Rect.unit (s := S1024x2048) ![0, 0] S1024x2048.size inb_S1024x2048_S1024x2048_0_0)).trans (View.ld_unit_zero zero2 _ _)
  funext y
  rw [eq_ix2 y]
  refine (pay736_apply _ _ _ (y 0) (y 1)).trans ?_
  refine congrArg (fun t : EReal => t + _) ?_
  refine (congrFun h _).trans ?_
  rw [harg9.read_unread]

/-- The first output block after a first block of tokens: the block's product. -/
theorem outA6 (c : Dev nD) (i : grid0.Coords) (arg2 : Memref sig .tc .vmem S768x1024 .fp8e4m3) (harg2 : arg2.IsWhole) (arg3 : Memref sig .tc .vmem S768x128 .f32) (harg3 : arg3.IsWhole) (arg4 : Memref sig .tc .vmem S768x2048 .fp8e5m2) (harg4 : arg4.IsWhole) (arg5 : Memref sig .tc .vmem S24x2048 .f32) (harg5 : arg5.IsWhole) (arg6 : Memref sig .tc .vmem S768x2048 .fp8e5m2) (harg6 : arg6.IsWhole) (arg7 : Memref sig .tc .vmem S24x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S768x1024 .bf16) (harg10 : arg10.IsWhole) (arg11 : Memref sig .tc .vmem S768x2048 .bf16) (harg11 : arg11.IsWhole) (arg12 : Memref sig .tc .vmem S768x2048 .bf16) (harg12 : arg12.IsWhole) (hc0 : cond0_0 i)     (x0 : Vec Ideal S768x1024 .fp8e4m3) (x1 : Vec Ideal S768x128 .f32) (x2 : Vec Ideal S768x2048 .fp8e5m2) (x3 : Vec Ideal S24x2048 .f32) (x4 : Vec Ideal S768x2048 .fp8e5m2) (x5 : Vec Ideal S24x2048 .f32) :
    out0_A_6 (F := Ideal) c i arg2 harg2 arg3 harg3 arg4 harg4 arg5 harg5 arg6 harg6 arg7 harg7 arg8 harg8 arg9 harg9 arg10 harg10 arg11 harg11 arg12 harg12 hc0 x0 x1 x2 x3 x4 x5 = fun y => 0 + prodG (expandC (i 0) x0 x1) (expandR x2 x3) y := by
  unfold out0_A_6
  rw [View.read_writes_eq_canon _ _ _ (cover0_A_6 (F := Ideal) c i arg2 harg2 arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  rw [View.canon_cons_unit_zero zero2, scr0_A, scr1_A]
  funext y
  rw [eq_ix2 y]
  refine (pay735_apply _ _ _ (y 0) (y 1)).trans ?_
  refine congrArg (fun t : EReal => t + _) ?_
  unfold kernelRun0_A.sl.v8835
  refine (congrFun (View.readCov_unit_lit' (Val := Elt Ideal) (S := S1024x2048) (e := .f32) (off := ![0, 0]) arg8.view inb_S1024x2048_S1024x2048_0_0 (k0_pay733 (F := Ideal)) (by decide)) _).trans ?_
  pointwise [k0_pay733]

/-- The second output block after a first block of tokens: the block's product. -/
theorem outA7 (c : Dev nD) (i : grid0.Coords) (arg2 : Memref sig .tc .vmem S768x1024 .fp8e4m3) (harg2 : arg2.IsWhole) (arg3 : Memref sig .tc .vmem S768x128 .f32) (harg3 : arg3.IsWhole) (arg4 : Memref sig .tc .vmem S768x2048 .fp8e5m2) (harg4 : arg4.IsWhole) (arg5 : Memref sig .tc .vmem S24x2048 .f32) (harg5 : arg5.IsWhole) (arg6 : Memref sig .tc .vmem S768x2048 .fp8e5m2) (harg6 : arg6.IsWhole) (arg7 : Memref sig .tc .vmem S24x2048 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S768x1024 .bf16) (harg10 : arg10.IsWhole) (arg11 : Memref sig .tc .vmem S768x2048 .bf16) (harg11 : arg11.IsWhole) (arg12 : Memref sig .tc .vmem S768x2048 .bf16) (harg12 : arg12.IsWhole) (hc0 : cond0_0 i)     (x0 : Vec Ideal S768x1024 .fp8e4m3) (x1 : Vec Ideal S768x128 .f32) (x2 : Vec Ideal S768x2048 .fp8e5m2) (x3 : Vec Ideal S24x2048 .f32) (x4 : Vec Ideal S768x2048 .fp8e5m2) (x5 : Vec Ideal S24x2048 .f32) :
    out0_A_7 (F := Ideal) c i arg2 harg2 arg3 harg3 arg4 harg4 arg5 harg5 arg6 harg6 arg7 harg7 arg8 harg8 arg9 harg9 arg10 harg10 arg11 harg11 arg12 harg12 hc0 x0 x1 x2 x3 x4 x5 = fun y => 0 + prodG (expandC (i 0) x0 x1) (expandR x4 x5) y := by
  unfold out0_A_7
  rw [View.read_writes_eq_canon _ _ _ (cover0_A_7 (F := Ideal) c i arg2 harg2 arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  rw [View.canon_cons_unit_zero zero2]
  unfold kernelRun0_A.sl.r_270
  rw [scr0_A, scr2_A]
  funext y
  rw [eq_ix2 y]
  refine (pay736_apply _ _ _ (y 0) (y 1)).trans ?_
  refine congrArg (fun t : EReal => t + _) ?_
  refine (congrFun (View.readCov_unit_lit' (Val := Elt Ideal) (S := S1024x2048) (e := .f32) (off := ![0, 0]) arg9.view inb_S1024x2048_S1024x2048_0_0 (k0_pay734 (F := Ideal)) (by decide)) _).trans ?_
  pointwise [k0_pay734]

end Cert.DwInIdeal.Gen

end
-- ==== Proof.DwIn.Array.lean ====
/-
The whole result arrays of the weight-gradient kernel, over the extended reals.
-/
module

public import proofs.«01_k».proof.Proof.Dx.Spec
public import proofs.«01_k».proof.Proof.DwIn.Out

@[expose] public section

set_option maxHeartbeats 1000000

noncomputable section

namespace Cert.DwInIdeal.Value

open Idealize.ShloMosaic Idealize.ShloMosaic.TcCoe Idealize.ShloMosaic.Tactic Idealize.SL.Sem
open Cert.DwInIdeal.Gen

variable (m : (ℓ : Loc nD τ sig) → Buf (Elt Ideal) ℓ)

/-- Which block of its array window 0 is on at each grid point. -/
theorem e0 : ∀ t : Fin cfg0.N, win0_0.index t = ![t.val % 10, t.val / 10] := (by decide +kernel : ∀ t : Fin grid0.N, _)
/-- Which block of its array window 1 is on at each grid point. -/
theorem e1 : ∀ t : Fin cfg0.N, win0_1.index t = ![t.val % 10, 0] := (by decide +kernel : ∀ t : Fin grid0.N, _)
/-- Which block of its array window 2 is on at each grid point. -/
theorem e2 : ∀ t : Fin cfg0.N, win0_2.index t = ![t.val % 10, 0] := (by decide +kernel : ∀ t : Fin grid0.N, _)
/-- Which block of its array window 3 is on at each grid point. -/
theorem e3 : ∀ t : Fin cfg0.N, win0_3.index t = ![t.val % 10, 0] := (by decide +kernel : ∀ t : Fin grid0.N, _)
/-- Which block of its array window 4 is on at each grid point. -/
theorem e4 : ∀ t : Fin cfg0.N, win0_4.index t = ![t.val % 10, 0] := (by decide +kernel : ∀ t : Fin grid0.N, _)
/-- Which block of its array window 5 is on at each grid point. -/
theorem e5 : ∀ t : Fin cfg0.N, win0_5.index t = ![t.val % 10, 0] := (by decide +kernel : ∀ t : Fin grid0.N, _)
/-- Which block of its array window 6 is on at each grid point. -/
theorem e6 : ∀ t : Fin cfg0.N, win0_6.index t = ![t.val / 10, 0] := (by decide +kernel : ∀ t : Fin grid0.N, _)
/-- Which block of its array window 7 is on at each grid point. -/
theorem e7 : ∀ t : Fin cfg0.N, win0_7.index t = ![t.val / 10, 0] := (by decide +kernel : ∀ t : Fin grid0.N, _)
/-- The first grid coordinate of a point. -/
theorem ec : ∀ t : Fin cfg0.N, ((grid0.coords t) 0).val = t.val / 10 := (by decide +kernel : ∀ t : Fin grid0.N, _)

/-- The first result array after the run is `dwF` of the argument arrays. -/
theorem arr6_eq (c : Dev nD) :
    (dats (F := Ideal) m 0 c).arrAt 6 cfg0.N
      = Cert.Spec.dwF (m ((c : Thread nD τ).loc main_arg0)) (m ((c : Thread nD τ).loc main_arg1)) (m ((c : Thread nD τ).loc main_arg2))
          (m ((c : Thread nD τ).loc main_arg3)) := by
  refine (dats (F := Ideal) m 0 c).arrAt_eq_of_covers 6 _ (by decide +kernel) fun t hf y => ?_
  blk_simp
  rw [after0_6, Pipeline.eq_sum_fin_of_reset_step_apply_of_flush (fun n h => (outsAt0 (F := Ideal) m c n h).1) 10 (fun _ => (0 : EReal))
    (fun t => prodG (expandC ((grid0.coords t) 0) (iblk m c 0 t) (iblk m c 1 t)) (expandR (iblk m c 2 t) (iblk m c 3 t)))
    (fun t h j => by rw [outsAt0_A m c t h]; dsimp only; rw [outA6])
    (fun t h j => by rw [outsAt0_B m c t h]; dsimp only; rw [outB6]) t ((flush0_6 t).mp hf) y]
  rw [zero_add]
  unfold prodG Cert.Spec.dwF
  refine Fin.sum_mul_add_congr fun s k hl => ?_
  generalize hp : (⟨10 * (t.val / 10) + s.val, _⟩ : Fin cfg0.N) = p
  have hp0 : p.val = 10 * (t.val / 10) + s.val := by rw [← hp]
  have hp1 : p.val % 10 = s.val := by omega
  have hp2 : p.val / 10 = t.val / 10 := by omega
  unfold expandC expandR Cert.Spec.deqC Cert.Spec.deqR Cert.Spec.grp
  blk_simp [iblk]
  rw [V_main_arg0 m c, V_main_arg1 m c, V_main_arg2 m c, V_main_arg3 m c]
  refine congrArg₂ (fun a b : EReal => a * b) (congrArg₂ (fun a b : EReal => a * b) (congrArg _ ?_) (congrArg _ ?_))
    (congrArg₂ (fun a b : EReal => a * b) (congrArg _ ?_) (congrArg _ ?_))
  · blk_ext [e0, e6, hp1, hp2]
  · blk_ext [e1, e6, hp1, hp2, ec]
  · blk_ext [e2, e6, hp1, hp2]
  · blk_ext [e3, e6, hp1, hp2]

/-- The second result array after the run is `dwF` of the argument arrays. -/
theorem arr7_eq (c : Dev nD) :
    (dats (F := Ideal) m 0 c).arrAt 7 cfg0.N
      = Cert.Spec.dwF (m ((c : Thread nD τ).loc main_arg0)) (m ((c : Thread nD τ).loc main_arg1)) (m ((c : Thread nD τ).loc main_arg4))
          (m ((c : Thread nD τ).loc main_arg5)) := by
  refine (dats (F := Ideal) m 0 c).arrAt_eq_of_covers 7 _ (by decide +kernel) fun t hf y => ?_
  blk_simp
  rw [after0_7, Pipeline.eq_sum_fin_of_reset_step_apply_of_flush (fun n h => (outsAt0 (F := Ideal) m c n h).2) 10 (fun _ => (0 : EReal))
    (fun t => prodG (expandC ((grid0.coords t) 0) (iblk m c 0 t) (iblk m c 1 t)) (expandR (iblk m c 4 t) (iblk m c 5 t)))
    (fun t h j => by rw [outsAt0_A m c t h]; dsimp only; rw [outA7])
    (fun t h j => by rw [outsAt0_B m c t h]; dsimp only; rw [outB7]) t ((flush0_7 t).mp hf) y]
  rw [zero_add]
  unfold prodG Cert.Spec.dwF
  refine Fin.sum_mul_add_congr fun s k hl => ?_
  generalize hp : (⟨10 * (t.val / 10) + s.val, _⟩ : Fin cfg0.N) = p
  have hp0 : p.val = 10 * (t.val / 10) + s.val := by rw [← hp]
  have hp1 : p.val % 10 = s.val := by omega
  have hp2 : p.val / 10 = t.val / 10 := by omega
  unfold expandC expandR Cert.Spec.deqC Cert.Spec.deqR Cert.Spec.grp
  blk_simp [iblk]
  rw [V_main_arg0 m c, V_main_arg1 m c, V_main_arg4 m c, V_main_arg5 m c]
  refine congrArg₂ (fun a b : EReal => a * b) (congrArg₂ (fun a b : EReal => a * b) (congrArg _ ?_) (congrArg _ ?_))
    (congrArg₂ (fun a b : EReal => a * b) (congrArg _ ?_) (congrArg _ ?_))
  · blk_ext [e0, e7, hp1, hp2]
  · blk_ext [e1, e7, hp1, hp2, ec]
  · blk_ext [e4, e7, hp1, hp2]
  · blk_ext [e5, e7, hp1, hp2]

end Cert.DwInIdeal.Value

end
-- ==== Proof.DwIn.RefArray.lean ====
/-
The result arrays of the weight gradients' reference, over the extended reals.
-/
module

public import proofs.«01_k».proof.Proof.Dx.Spec
public import proofs.«01_k».proof.Proof.Gen.DwInRefIdeal.Value

@[expose] public section

set_option maxHeartbeats 1000000

noncomputable section

namespace Cert.DwInRefIdeal.Value

open Idealize.ShloMosaic Idealize.ShloMosaic.TcCoe Idealize.ShloMosaic.Tactic Idealize.SL.Sem
open Cert.DwInRefIdeal.Gen

/-- The reference's first result is `dwF` of its operands. -/
theorem pay2_eq (a0 : Vec Ideal S7680x4096 .fp8e4m3) (a1 : Vec Ideal S7680x128 .f32) (a2 : Vec Ideal S7680x2048 .fp8e5m2) (a3 : Vec Ideal S240x2048 .f32) :
    k0_pay2 (F := Ideal) a0 a1 a2 a3 = Cert.Spec.dwF a0 a1 a2 a3 := by
  funext y
  rw [eq_ix2 y]
  unfold Cert.Spec.dwF Cert.Spec.deqC Cert.Spec.deqR Cert.Spec.grp
  pointwise [k0_pay2, k0_pay1]

/-- The reference's second result is `dwF` of its operands. -/
theorem pay3_eq (a0 : Vec Ideal S7680x4096 .fp8e4m3) (a1 : Vec Ideal S7680x128 .f32) (a2 : Vec Ideal S7680x2048 .fp8e5m2) (a3 : Vec Ideal S240x2048 .f32) :
    k0_pay3 (F := Ideal) a0 a1 a2 a3 = Cert.Spec.dwF a0 a1 a2 a3 := by
  funext y
  rw [eq_ix2 y]
  unfold Cert.Spec.dwF Cert.Spec.deqC Cert.Spec.deqR Cert.Spec.grp
  pointwise [k0_pay3, k0_pay1]

end Cert.DwInRefIdeal.Value

end
-- ==== Proof.DwIn.Algebraic.lean ====
/-
The weight-gradient kernel and its reference leave the same result arrays, over the extended reals.
-/
module

public import proofs.«01_k».proof.Defs
public import proofs.«01_k».proof.Proof.DwIn.Array
public import proofs.«01_k».proof.Proof.DwIn.RefArray

@[expose] public section

set_option maxHeartbeats 1000000

noncomputable section

namespace Cert.Proof

open Idealize.ShloMosaic Idealize.SL.Sem

/-- From the same arguments, the weight-gradient kernel and its reference both run safely and leave the same two result arrays. -/
theorem dwIn_algebraic : Cert.algebraic_DwInIdeal_DwInRefIdeal (hDwInIdeal := Cert.DwInIdeal.Gen.facts)
    (hDwInRefIdeal := Cert.DwInRefIdeal.Gen.facts) := by
  intro m g m' g' _ hm
  refine ⟨fun c => (Cert.DwInIdeal.Gen.dats (F := Ideal) m 0 c).arrAt 6 Cert.DwInIdeal.cfg0.N,
    fun c => (Cert.DwInIdeal.Gen.dats (F := Ideal) m 0 c).arrAt 7 Cert.DwInIdeal.cfg0.N, ?_, ?_⟩
  · exact (θ_run _ _ _).mono (fun r h c => h c) (Cert.DwInIdeal.Value.run_blocks (F := Ideal) m g)
  · refine (θ_run _ _ _).mono (fun r h c => ⟨?_, ?_, (h c).2.2⟩) (Cert.DwInRefIdeal.Value.run (F := Ideal) m' g')
    · refine (h c).1.trans ?_
      obtain ⟨h0, h1, h2, h3, h4, h5⟩ := hm c
      refine (Cert.DwInRefIdeal.Value.pay2_eq _ _ _ _).trans (Eq.trans ?_ (Cert.DwInIdeal.Value.arr6_eq m c).symm)
      rw [h0, h1, h2, h3]
    · refine (h c).2.1.trans ?_
      obtain ⟨h0, h1, h2, h3, h4, h5⟩ := hm c
      refine (Cert.DwInRefIdeal.Value.pay3_eq _ _ _ _).trans (Eq.trans ?_ (Cert.DwInIdeal.Value.arr7_eq m c).symm)
      rw [h0, h1, h4, h5]

end Cert.Proof

end
-- ==== Proof.Dx.Exit.lean ====
/-
The exit of the dequantising loop of the input-gradient kernel: after its trips the two scratch buffers hold what the
trips wrote, whatever they held at entry, since the trips' blocks cover them.
-/
module

public import proofs.«01_k».proof.Proof.Gen.DxIdeal.Loops
public import Idealize.ShloMosaic.Lib.Pipeline.FrameBody
public import Idealize.ShloMosaic.Lib.Pipeline.Frame
public import Idealize.ShloMosaic.Lib.Ring

@[expose] public section

set_option maxRecDepth 16384
set_option maxHeartbeats 1000000

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The pieces of all trips cover scratch `arg10`. -/
theorem cover_t1_arg10 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (y : S512x2048.Idx) :
    ∃ pc ∈ (pb_k0_t1 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6 16).1, y ∈ pc.1.set :=
  View.cover_of_tiledL (pb_k0_t1 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6 16).1 S32x128.size (by sl_kernel_rfl) y

/-- The pieces of all trips cover scratch `arg11`. -/
theorem cover_t1_arg11 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (y : S512x2048.Idx) :
    ∃ pc ∈ (pb_k0_t1 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6 16).2, y ∈ pc.1.set :=
  View.cover_of_tiledL (pb_k0_t1 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6 16).2 S32x128.size (by sl_kernel_rfl) y

/-- What scratch `arg10` holds after the loop, as a value. -/
def scr10 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) : S512x2048.Idx → Elt F .bf16 := View.canon (pb_k0_t1 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6 16).1

/-- What scratch `arg11` holds after the loop, as a value. -/
def scr11 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) : S512x2048.Idx → Elt F .bf16 := View.canon (pb_k0_t1 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6 16).2

/-- After the loop both scratch buffers hold values that do not depend on their contents at entry. -/
instance exit_k0_t1 (𝒱 : Variants) (c : Dev nD) (bd : Option 𝒱.V) (E : Set ℕ) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg10 : BufTy.Contents (Elt F) arg10.view.ty) (G_arg11 : BufTy.Contents (Elt F) arg11.view.ty) :
    LoopExit (loopInv_k0_t1 (F := F) 𝒱 c bd E i arg1 harg1 arg2 harg2 arg3 harg3 arg4 harg4 arg5 harg5 arg6 harg6 arg7 harg7 arg8 harg8 arg9 harg9 arg10 harg10 arg11 harg11 X_arg3 X_arg4 X_arg5 X_arg6 G_arg10 G_arg11) where
  post _ := iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg10.view.loc (c : Thread nD τ) ↦[arg10.view.set]{fullShare} harg10.unread (scr10 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6)) ∗ (arg11.view.loc (c : Thread nD τ) ↦[arg11.view.set]{fullShare} harg11.unread (scr11 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6)))
  exit acc := by
    show inv_k0_t1 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6 G_arg10 G_arg11 16 acc ⊢ _
    iintro ⟨HR3, HR4, HR5, HR6, ⟨%f10, HW10, %h10⟩, ⟨%f11, HW11, %h11⟩⟩
    have e10 : f10 = harg10.unread (scr10 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6) :=
      harg10.eq_unread (by rw [h10]; exact View.read_writes_eq_canon _ _ _ (cover_t1_arg10 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6))
    have e11 : f11 = harg11.unread (scr11 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6) :=
      harg11.eq_unread (by rw [h11]; exact View.read_writes_eq_canon _ _ _ (cover_t1_arg11 (F := F) 𝒱 c bd i arg1 harg1 arg2 harg2 arg3 harg3 arg4 harg4 arg5 harg5 arg6 harg6 arg7 harg7 arg8 harg8 arg9 harg9 arg10 harg10 arg11 harg11 X_arg3 X_arg4 X_arg5 X_arg6))
    subst e10; subst e11
    isplitl [HR3]; · iexact HR3
    isplitl [HR4]; · iexact HR4
    isplitl [HR5]; · iexact HR5
    isplitl [HR6]; · iexact HR6
    isplitl [HW10]; · iexact HW10
    iexact HW11

end Cert.DxIdeal.Gen

end
-- ==== Proof.Dx.Scratch.lean ====
/-
What the two scratch buffers of the input-gradient kernel hold after the dequantising loop, over the extended reals:
every code times the scale of its group of 32.
-/
module

public import proofs.«01_k».proof.Proof.Dx.Exit
public import Idealize.ShloMosaic.Lib.Pointwise
public import Idealize.ShloMosaic.Lib.Pipeline.Value

@[expose] public section

set_option maxRecDepth 16384
set_option maxHeartbeats 1000000

noncomputable section

namespace Cert.DxIdeal.Gen

open Idealize.ShloMosaic Idealize.ShloMosaic.TcCoe Idealize.ShloMosaic.Tactic
open Idealize.SL Idealize.SL.RA Idealize.SL.BI

/-- Codes times the scales of their groups of 32 columns. -/
def expandG (X : S512x2048.Idx → EReal) (Sc : S512x64.Idx → EReal) : S512x2048.Idx → EReal :=
  fun y => X y * Sc (ix2 (y 0) (⟨(y 1).val / 32, by have := (y 1).isLt; change (y 1).val < 2048 at this; omega⟩ : Fin 64))

/-- The trip count of the expanding loop. -/
theorem trips_t1 : k0_t1_loop.trips = 16 := by decide +kernel

/-- The offsets of one access, by the loop index. -/
theorem off1 : ∀ k : Fin k0_t1_loop.trips, ∀ a, k0_off1 k a = (![32 * k.val, 0] : Fin 2 → ℕ) a := by decide +kernel
/-- The offsets of one access, by the loop index. -/
theorem off2 : ∀ k : Fin k0_t1_loop.trips, ∀ a, k0_off2 k a = (![32 * k.val, 128 * 0] : Fin 2 → ℕ) a := by decide +kernel
/-- The offsets of one access, by the loop index. -/
theorem off3 : ∀ k : Fin k0_t1_loop.trips, ∀ a, k0_off3 k a = (![32 * k.val, 128 * 1] : Fin 2 → ℕ) a := by decide +kernel
/-- The offsets of one access, by the loop index. -/
theorem off4 : ∀ k : Fin k0_t1_loop.trips, ∀ a, k0_off4 k a = (![32 * k.val, 128 * 2] : Fin 2 → ℕ) a := by decide +kernel
/-- The offsets of one access, by the loop index. -/
theorem off5 : ∀ k : Fin k0_t1_loop.trips, ∀ a, k0_off5 k a = (![32 * k.val, 128 * 3] : Fin 2 → ℕ) a := by decide +kernel
/-- The offsets of one access, by the loop index. -/
theorem off6 : ∀ k : Fin k0_t1_loop.trips, ∀ a, k0_off6 k a = (![32 * k.val, 128 * 4] : Fin 2 → ℕ) a := by decide +kernel
/-- The offsets of one access, by the loop index. -/
theorem off7 : ∀ k : Fin k0_t1_loop.trips, ∀ a, k0_off7 k a = (![32 * k.val, 128 * 5] : Fin 2 → ℕ) a := by decide +kernel
/-- The offsets of one access, by the loop index. -/
theorem off8 : ∀ k : Fin k0_t1_loop.trips, ∀ a, k0_off8 k a = (![32 * k.val, 128 * 6] : Fin 2 → ℕ) a := by decide +kernel
/-- The offsets of one access, by the loop index. -/
theorem off9 : ∀ k : Fin k0_t1_loop.trips, ∀ a, k0_off9 k a = (![32 * k.val, 128 * 7] : Fin 2 → ℕ) a := by decide +kernel
/-- The offsets of one access, by the loop index. -/
theorem off10 : ∀ k : Fin k0_t1_loop.trips, ∀ a, k0_off10 k a = (![32 * k.val, 128 * 8] : Fin 2 → ℕ) a := by decide +kernel
/-- The offsets of one access, by the loop index. -/
theorem off11 : ∀ k : Fin k0_t1_loop.trips, ∀ a, k0_off11 k a = (![32 * k.val, 128 * 9] : Fin 2 → ℕ) a := by decide +kernel
/-- The offsets of one access, by the loop index. -/
theorem off12 : ∀ k : Fin k0_t1_loop.trips, ∀ a, k0_off12 k a = (![32 * k.val, 128 * 10] : Fin 2 → ℕ) a := by decide +kernel
/-- The offsets of one access, by the loop index. -/
theorem off13 : ∀ k : Fin k0_t1_loop.trips, ∀ a, k0_off13 k a = (![32 * k.val, 128 * 11] : Fin 2 → ℕ) a := by decide +kernel
/-- The offsets of one access, by the loop index. -/
theorem off14 : ∀ k : Fin k0_t1_loop.trips, ∀ a, k0_off14 k a = (![32 * k.val, 128 * 12] : Fin 2 → ℕ) a := by decide +kernel
/-- The offsets of one access, by the loop index. -/
theorem off15 : ∀ k : Fin k0_t1_loop.trips, ∀ a, k0_off15 k a = (![32 * k.val, 128 * 13] : Fin 2 → ℕ) a := by decide +kernel
/-- The offsets of one access, by the loop index. -/
theorem off16 : ∀ k : Fin k0_t1_loop.trips, ∀ a, k0_off16 k a = (![32 * k.val, 128 * 14] : Fin 2 → ℕ) a := by decide +kernel
/-- The offsets of one access, by the loop index. -/
theorem off17 : ∀ k : Fin k0_t1_loop.trips, ∀ a, k0_off17 k a = (![32 * k.val, 128 * 15] : Fin 2 → ℕ) a := by decide +kernel

/-- The scales placed in the low half of the lanes, read at a lane of that half. -/
theorem pay3_apply (v : Vec Ideal S32x64 .f32) (r : Fin 32) (n : ℕ) (hn : n < 64) :
    k0_pay3 (F := Ideal) v (ix2 r (⟨n, by omega⟩ : Fin 128)) = v (ix2 r (⟨n, hn⟩ : Fin 64)) := by
  pointwise [k0_pay3]
  simp [hn]

/-- One stored piece (codes times scales gathered by lane / 32) is the tile of `expandG` its rectangle names. -/
theorem piece_ok (X : S512x2048.Idx → Elt Ideal .fp8e5m2) (Sc : S512x64.Idx → Elt Ideal .f32) (o : Fin 2 → ℕ) (ho : ∀ a, o a + S32x128.size a ≤ S512x2048.size a)
    (o1 : Fin 2 → ℕ) (ho1 : ∀ a, o1 a + S32x64.size a ≤ S512x64.size a) (j : ℕ) (k : Fin k0_t1_loop.trips)
    (h0 : ∀ a, o a = (![32 * k.val, 128 * j] : Fin 2 → ℕ) a) (h1 : ∀ a, o1 a = (![32 * k.val, 0] : Fin 2 → ℕ) a) (hj : j < 16)
    (idx : IVec S32x128 32) (hidx : ∀ l : Fin 128, (idx (ix2 (0 : Fin 32) l)).toNat = 4 * j + l.val / 32)
    (hrow : ∀ x : S32x128.Idx, idx x = idx (ix2 (0 : Fin 32) (x 1))) (c1 : S32x128.ShapeCasts S32x128x1) (c2 : S32x128x1.ShapeCasts S32x128) (c3 : S32x128.ShapeCasts S32x128) (x : S32x128.Idx) :
    (shapeCast S32x128 (mulf (extf .bf16 (View.ld X (Rect.unit (s := S512x2048) o S32x128.size ho)) bitsLt_fp8e5m2_bf16)
      (truncf .bf16 (dynamicGather 1 (k0_pay3 (F := Ideal) (View.ld Sc (Rect.unit (s := S512x64) o1 S32x64.size ho1)))
        (shapeCast S32x128 (shapeCast S32x128x1 idx c1) c2)) bitsLt_bf16_f32) : FVec Ideal S32x128 .bf16) c3) x
    = expandG X Sc ((Rect.unit (s := S512x2048) o S32x128.size ho).emb x) := by
  have hx1 : (x 1).val < 128 := (x 1).isLt
  have hx0 : (x 0).val < 32 := (x 0).isLt
  have hk := k.isLt
  have hk : k.val < 16 := lt_of_lt_of_eq hk trips_t1
  have e0 := h0 0
  have e1 := h0 1
  have e2 := h1 0
  have e3 := h1 1
  simp only [Matrix.cons_val_zero, Matrix.cons_val_one] at e0 e1 e2 e3
  have hn : 4 * j + (x 1).val / 32 < 64 := by omega
  rw [shapeCast_self, mulf_apply, extf_apply, truncf_apply, dynamicGather_apply, shapeCast_shapeCast]
  have hi : (fun b => if b = 1 then ⟨(idx x).toNat % S32x128.size b, Nat.mod_lt _ (Fin.pos (x b))⟩ else x b : S32x128.Idx)
      = ix2 (x 0 : Fin 32) (⟨4 * j + (x 1).val / 32, by omega⟩ : Fin 128) := by
    funext b
    match b with
    | ⟨0, _⟩ => rfl
    | ⟨1, _⟩ =>
      apply Fin.ext
      show (idx x).toNat % 128 = 4 * j + (x 1).val / 32
      rw [hrow x, hidx (x 1), Nat.mod_eq_of_lt (by omega)]
  rw [hi]
  refine (congrArg (fun t : EReal => X ((Rect.unit (s := S512x2048) o S32x128.size ho).emb x) * t) (pay3_apply _ (x 0) _ hn)).trans ?_
  show X ((Rect.unit (s := S512x2048) o S32x128.size ho).emb x) * Sc ((Rect.unit (s := S512x64) o1 S32x64.size ho1).emb _) = _
  unfold expandG
  congr 2
  funext b
  match b with
  | ⟨0, _⟩ =>
    apply Fin.ext
    show o1 0 + 1 * (x 0).val = o 0 + 1 * (x 0).val
    omega
  | ⟨1, _⟩ =>
    apply Fin.ext
    show o1 1 + 1 * (4 * j + (x 1).val / 32) = (o 1 + 1 * (x 1).val) / 32
    omega

/-- One trip's pieces of scratch `arg10` are tiles of the expanded array. -/
theorem trip_arg10 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) :
    ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 X_arg3 X_arg4 X_arg5 X_arg6 k).1, ∀ x : p.1.shape.Idx, p.2 x = expandG (arg3.view.read (Elt Ideal) X_arg3) (arg4.view.read (Elt Ideal) X_arg4) (p.1.emb x) := by
  unfold tripL_k0_t1 trip_k0_t1
  dsimp only
  simp only [List.forall_mem_cons]
  refine ⟨?_, ?_, ?_, ?_, ?_, ?_, ?_, ?_, ?_, ?_, ?_, ?_, ?_, ?_, ?_, ?_, fun p hp => absurd hp List.not_mem_nil⟩
  · intro x; exact piece_ok _ _ _ _ _ _ 15 k (off17 k) (off1 k) (by decide) _ (by decide +kernel) (fun x => rfl) _ _ _ x
  · intro x; exact piece_ok _ _ _ _ _ _ 14 k (off16 k) (off1 k) (by decide) _ (by decide +kernel) (fun x => rfl) _ _ _ x
  · intro x; exact piece_ok _ _ _ _ _ _ 13 k (off15 k) (off1 k) (by decide) _ (by decide +kernel) (fun x => rfl) _ _ _ x
  · intro x; exact piece_ok _ _ _ _ _ _ 12 k (off14 k) (off1 k) (by decide) _ (by decide +kernel) (fun x => rfl) _ _ _ x
  · intro x; exact piece_ok _ _ _ _ _ _ 11 k (off13 k) (off1 k) (by decide) _ (by decide +kernel) (fun x => rfl) _ _ _ x
  · intro x; exact piece_ok _ _ _ _ _ _ 10 k (off12 k) (off1 k) (by decide) _ (by decide +kernel) (fun x => rfl) _ _ _ x
  · intro x; exact piece_ok _ _ _ _ _ _ 9 k (off11 k) (off1 k) (by decide) _ (by decide +kernel) (fun x => rfl) _ _ _ x
  · intro x; exact piece_ok _ _ _ _ _ _ 8 k (off10 k) (off1 k) (by decide) _ (by decide +kernel) (fun x => rfl) _ _ _ x
  · intro x; exact piece_ok _ _ _ _ _ _ 7 k (off9 k) (off1 k) (by decide) _ (by decide +kernel) (fun x => rfl) _ _ _ x
  · intro x; exact piece_ok _ _ _ _ _ _ 6 k (off8 k) (off1 k) (by decide) _ (by decide +kernel) (fun x => rfl) _ _ _ x
  · intro x; exact piece_ok _ _ _ _ _ _ 5 k (off7 k) (off1 k) (by decide) _ (by decide +kernel) (fun x => rfl) _ _ _ x
  · intro x; exact piece_ok _ _ _ _ _ _ 4 k (off6 k) (off1 k) (by decide) _ (by decide +kernel) (fun x => rfl) _ _ _ x
  · intro x; exact piece_ok _ _ _ _ _ _ 3 k (off5 k) (off1 k) (by decide) _ (by decide +kernel) (fun x => rfl) _ _ _ x
  · intro x; exact piece_ok _ _ _ _ _ _ 2 k (off4 k) (off1 k) (by decide) _ (by decide +kernel) (fun x => rfl) _ _ _ x
  · intro x; exact piece_ok _ _ _ _ _ _ 1 k (off3 k) (off1 k) (by decide) _ (by decide +kernel) (fun x => rfl) _ _ _ x
  · intro x; exact piece_ok _ _ _ _ _ _ 0 k (off2 k) (off1 k) (by decide) _ (by decide +kernel) (fun x => rfl) _ _ _ x

/-- The pieces of the trips so far are tiles of the expanded array. -/
theorem pb_arg10 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) :
    ∀ n ≤ 16, ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 X_arg3 X_arg4 X_arg5 X_arg6 n).1, ∀ x : p.1.shape.Idx, p.2 x = expandG (arg3.view.read (Elt Ideal) X_arg3) (arg4.view.read (Elt Ideal) X_arg4) (p.1.emb x)
  | 0, _ => fun p hp => absurd hp (by simp [pb_k0_t1])
  | n + 1, hn => by
    rw [pb_k0_t1_succ 𝒱 c bd i arg1 harg1 arg2 harg2 arg3 harg3 arg4 harg4 arg5 harg5 arg6 harg6 arg7 harg7 arg8 harg8 arg9 harg9 arg10 harg10 arg11 harg11 X_arg3 X_arg4 X_arg5 X_arg6 (⟨n, by have h := trips_t1; omega⟩ : Fin k0_t1_loop.trips)]
    intro p hp
    rcases List.mem_append.mp hp with hp | hp
    · exact trip_arg10 𝒱 c bd i arg1 harg1 arg2 harg2 arg3 harg3 arg4 harg4 arg5 harg5 arg6 harg6 arg7 harg7 arg8 harg8 arg9 harg9 arg10 harg10 arg11 harg11 X_arg3 X_arg4 X_arg5 X_arg6 _ p hp
    · exact pb_arg10 𝒱 c bd i arg1 harg1 arg2 harg2 arg3 harg3 arg4 harg4 arg5 harg5 arg6 harg6 arg7 harg7 arg8 harg8 arg9 harg9 arg10 harg10 arg11 harg11 X_arg3 X_arg4 X_arg5 X_arg6 n (by omega) p hp

/-- Scratch `arg10` after the loop: codes times scales, expanded. -/
theorem scr10_eq (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) :
    scr10 (F := Ideal) 𝒱 c bd i arg1 harg1 arg2 harg2 arg3 harg3 arg4 harg4 arg5 harg5 arg6 harg6 arg7 harg7 arg8 harg8 arg9 harg9 arg10 harg10 arg11 harg11 X_arg3 X_arg4 X_arg5 X_arg6 = expandG (arg3.view.read (Elt Ideal) X_arg3) (arg4.view.read (Elt Ideal) X_arg4) := by
  funext y
  exact View.canon_apply_of_pieces _ _ (pb_arg10 𝒱 c bd i arg1 harg1 arg2 harg2 arg3 harg3 arg4 harg4 arg5 harg5 arg6 harg6 arg7 harg7 arg8 harg8 arg9 harg9 arg10 harg10 arg11 harg11 X_arg3 X_arg4 X_arg5 X_arg6 16 le_rfl) y (cover_t1_arg10 𝒱 c bd i arg1 harg1 arg2 harg2 arg3 harg3 arg4 harg4 arg5 harg5 arg6 harg6 arg7 harg7 arg8 harg8 arg9 harg9 arg10 harg10 arg11 harg11 X_arg3 X_arg4 X_arg5 X_arg6 y)

/-- One trip's pieces of scratch `arg11` are tiles of the expanded array. -/
theorem trip_arg11 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k0_t1_loop.trips) :
    ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 X_arg3 X_arg4 X_arg5 X_arg6 k).2, ∀ x : p.1.shape.Idx, p.2 x = expandG (arg5.view.read (Elt Ideal) X_arg5) (arg6.view.read (Elt Ideal) X_arg6) (p.1.emb x) := by
  unfold tripL_k0_t1 trip_k0_t1
  dsimp only
  simp only [List.forall_mem_cons]
  refine ⟨?_, ?_, ?_, ?_, ?_, ?_, ?_, ?_, ?_, ?_, ?_, ?_, ?_, ?_, ?_, ?_, fun p hp => absurd hp List.not_mem_nil⟩
  · intro x; exact piece_ok _ _ _ _ _ _ 15 k (off17 k) (off1 k) (by decide) _ (by decide +kernel) (fun x => rfl) _ _ _ x
  · intro x; exact piece_ok _ _ _ _ _ _ 14 k (off16 k) (off1 k) (by decide) _ (by decide +kernel) (fun x => rfl) _ _ _ x
  · intro x; exact piece_ok _ _ _ _ _ _ 13 k (off15 k) (off1 k) (by decide) _ (by decide +kernel) (fun x => rfl) _ _ _ x
  · intro x; exact piece_ok _ _ _ _ _ _ 12 k (off14 k) (off1 k) (by decide) _ (by decide +kernel) (fun x => rfl) _ _ _ x
  · intro x; exact piece_ok _ _ _ _ _ _ 11 k (off13 k) (off1 k) (by decide) _ (by decide +kernel) (fun x => rfl) _ _ _ x
  · intro x; exact piece_ok _ _ _ _ _ _ 10 k (off12 k) (off1 k) (by decide) _ (by decide +kernel) (fun x => rfl) _ _ _ x
  · intro x; exact piece_ok _ _ _ _ _ _ 9 k (off11 k) (off1 k) (by decide) _ (by decide +kernel) (fun x => rfl) _ _ _ x
  · intro x; delta k0_pay92 k0_pay91; exact piece_ok _ _ _ _ _ _ 8 k (off10 k) (off1 k) (by decide) _ (by decide +kernel) (fun x => rfl) _ _ _ x
  · intro x; exact piece_ok _ _ _ _ _ _ 7 k (off9 k) (off1 k) (by decide) _ (by decide +kernel) (fun x => rfl) _ _ _ x
  · intro x; exact piece_ok _ _ _ _ _ _ 6 k (off8 k) (off1 k) (by decide) _ (by decide +kernel) (fun x => rfl) _ _ _ x
  · intro x; exact piece_ok _ _ _ _ _ _ 5 k (off7 k) (off1 k) (by decide) _ (by decide +kernel) (fun x => rfl) _ _ _ x
  · intro x; exact piece_ok _ _ _ _ _ _ 4 k (off6 k) (off1 k) (by decide) _ (by decide +kernel) (fun x => rfl) _ _ _ x
  · intro x; exact piece_ok _ _ _ _ _ _ 3 k (off5 k) (off1 k) (by decide) _ (by decide +kernel) (fun x => rfl) _ _ _ x
  · intro x; exact piece_ok _ _ _ _ _ _ 2 k (off4 k) (off1 k) (by decide) _ (by decide +kernel) (fun x => rfl) _ _ _ x
  · intro x; exact piece_ok _ _ _ _ _ _ 1 k (off3 k) (off1 k) (by decide) _ (by decide +kernel) (fun x => rfl) _ _ _ x
  · intro x; exact piece_ok _ _ _ _ _ _ 0 k (off2 k) (off1 k) (by decide) _ (by decide +kernel) (fun x => rfl) _ _ _ x

/-- The pieces of the trips so far are tiles of the expanded array. -/
theorem pb_arg11 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) :
    ∀ n ≤ 16, ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 X_arg3 X_arg4 X_arg5 X_arg6 n).2, ∀ x : p.1.shape.Idx, p.2 x = expandG (arg5.view.read (Elt Ideal) X_arg5) (arg6.view.read (Elt Ideal) X_arg6) (p.1.emb x)
  | 0, _ => fun p hp => absurd hp (by simp [pb_k0_t1])
  | n + 1, hn => by
    rw [pb_k0_t1_succ 𝒱 c bd i arg1 harg1 arg2 harg2 arg3 harg3 arg4 harg4 arg5 harg5 arg6 harg6 arg7 harg7 arg8 harg8 arg9 harg9 arg10 harg10 arg11 harg11 X_arg3 X_arg4 X_arg5 X_arg6 (⟨n, by have h := trips_t1; omega⟩ : Fin k0_t1_loop.trips)]
    intro p hp
    rcases List.mem_append.mp hp with hp | hp
    · exact trip_arg11 𝒱 c bd i arg1 harg1 arg2 harg2 arg3 harg3 arg4 harg4 arg5 harg5 arg6 harg6 arg7 harg7 arg8 harg8 arg9 harg9 arg10 harg10 arg11 harg11 X_arg3 X_arg4 X_arg5 X_arg6 _ p hp
    · exact pb_arg11 𝒱 c bd i arg1 harg1 arg2 harg2 arg3 harg3 arg4 harg4 arg5 harg5 arg6 harg6 arg7 harg7 arg8 harg8 arg9 harg9 arg10 harg10 arg11 harg11 X_arg3 X_arg4 X_arg5 X_arg6 n (by omega) p hp

/-- Scratch `arg11` after the loop: codes times scales, expanded. -/
theorem scr11_eq (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) :
    scr11 (F := Ideal) 𝒱 c bd i arg1 harg1 arg2 harg2 arg3 harg3 arg4 harg4 arg5 harg5 arg6 harg6 arg7 harg7 arg8 harg8 arg9 harg9 arg10 harg10 arg11 harg11 X_arg3 X_arg4 X_arg5 X_arg6 = expandG (arg5.view.read (Elt Ideal) X_arg5) (arg6.view.read (Elt Ideal) X_arg6) := by
  funext y
  exact View.canon_apply_of_pieces _ _ (pb_arg11 𝒱 c bd i arg1 harg1 arg2 harg2 arg3 harg3 arg4 harg4 arg5 harg5 arg6 harg6 arg7 harg7 arg8 harg8 arg9 harg9 arg10 harg10 arg11 harg11 X_arg3 X_arg4 X_arg5 X_arg6 16 le_rfl) y (cover_t1_arg11 𝒱 c bd i arg1 harg1 arg2 harg2 arg3 harg3 arg4 harg4 arg5 harg5 arg6 harg6 arg7 harg7 arg8 harg8 arg9 harg9 arg10 harg10 arg11 harg11 X_arg3 X_arg4 X_arg5 X_arg6 y)

end Cert.DxIdeal.Gen

end
-- ==== Proof.Dx.Run.lean ====
/-
The run of the input-gradient kernel's body: the pieces its stores leave in the output block.
-/
module

public import proofs.«01_k».proof.Proof.Gen.DxIdeal.Frame.Runs
public import proofs.«01_k».proof.Proof.Dx.Exit

@[expose] public section

-- membership in a rectangle of production extents (`View.cover_of_tiled`): the elaborator's structural look
-- recurses once per coordinate of the long axes
set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole)
    (x0 : Vec F S1 .f32) (x1 : Vec F S1 .f32) (x2 : Vec F S512x2048 .fp8e5m2) (x3 : Vec F S512x64 .f32) (x4 : Vec F S512x2048 .fp8e5m2) (x5 : Vec F S512x64 .f32) (x6 : Vec F S4096x2048 .fp8e4m3) (x7 : Vec F S4096x2048 .fp8e4m3) :
    { L8 : List (View.Piece (Elt F) S512x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ d, owns (c : Thread nD τ) arg10 fullShare d) ∗ (∃ d, owns (c : Thread nD τ) arg11 fullShare d)) -∗ K ⟨⟩))
          ⊢ wp frame (wpE (defs₀ (F := F)) Variants.none c none) E (cc0_dx i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0_dx_eq_skeleton]; unfold cc0_dx_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [HL0]
    · iexists _; isplitr; · ipureintro; exact harg3.read_unread _
      iexact HL0
    isplitl [HL1]
    · iexists _; isplitr; · ipureintro; exact harg4.read_unread _
      iexact HL1
    isplitl [HL2]
    · iexists _; isplitr; · ipureintro; exact harg5.read_unread _
      iexact HL2
    isplitl [HL3]
    · iexists _; isplitr; · ipureintro; exact harg6.read_unread _
      iexact HL3
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HL4]
    · iexists _, _; isplitr; swap; · iexact HL4
      ipureintro; rfl
    iexists _, _; isplitr; swap; · iexact HL5
    ipureintro; rfl

end Cert.DxIdeal.Gen

end
-- ==== Proof.Dx.Frame.lean ====
/-
The frame of the input-gradient kernel: every run ends, the arguments unchanged, the output array named.
-/
module

public import proofs.«01_k».proof.Proof.Dx.Run
public import Idealize.ShloMosaic.Lib.Claim

@[expose] public section

-- membership in a rectangle of production extents (`View.cover_of_tiled`): the elaborator's structural look
-- recurses once per coordinate of the long axes
set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 8 tile its block (8 stores of `S512x512`, checked by the kernel's evaluation: Lib/Ring.lean `Piece.tiledL`, linear in the pieces, through a loop's `@[irreducible]` trip theorem too), so they cover it. -/
theorem cover0_A_8 (c : Dev nD) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole)
    (x0 : Vec F S1 .f32) (x1 : Vec F S1 .f32) (x2 : Vec F S512x2048 .fp8e5m2) (x3 : Vec F S512x64 .f32) (x4 : Vec F S512x2048 .fp8e5m2) (x5 : Vec F S512x64 .f32) (x6 : Vec F S4096x2048 .fp8e4m3) (x7 : Vec F S4096x2048 .fp8e4m3) (y : S512x4096.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5 x6 x7).1 S512x512.size (by sl_kernel_rfl) y

/-- What the run leaves in output 8's staging buffer: its pieces read back over junk. -/
def out0_A_8 (c : Dev nD) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole)
    (x0 : Vec F S1 .f32) (x1 : Vec F S1 .f32) (x2 : Vec F S512x2048 .fp8e5m2) (x3 : Vec F S512x64 .f32) (x4 : Vec F S512x2048 .fp8e5m2) (x5 : Vec F S512x64 .f32) (x6 : Vec F S4096x2048 .fp8e4m3) (x7 : Vec F S4096x2048 .fp8e4m3) : Vec F S512x4096 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 x0 x1 x2 x3 x4 x5 x6 x7).1)

/-! ## What the outputs hold after each point -/

/-- What the outputs' staging buffers hold after the body at point `t`: the run's contents at
    the point's memrefs and input blocks. -/
def outsAt0 (c : Dev nD) (t : Fin cfg0.N) : Vec F S512x4096 .bf16 :=
  out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What window 1 holds after a grid point. -/
theorem after0_1 (c : Dev nD) (t : Fin cfg0.N) : (dats m 0 c).after 1 t = iblk m c 1 t := by dsimp only [dats]
/-- What window 2 holds after a grid point. -/
theorem after0_2 (c : Dev nD) (t : Fin cfg0.N) : (dats m 0 c).after 2 t = iblk m c 2 t := by dsimp only [dats]
/-- What window 3 holds after a grid point. -/
theorem after0_3 (c : Dev nD) (t : Fin cfg0.N) : (dats m 0 c).after 3 t = iblk m c 3 t := by dsimp only [dats]
/-- What window 4 holds after a grid point. -/
theorem after0_4 (c : Dev nD) (t : Fin cfg0.N) : (dats m 0 c).after 4 t = iblk m c 4 t := by dsimp only [dats]
/-- What window 5 holds after a grid point. -/
theorem after0_5 (c : Dev nD) (t : Fin cfg0.N) : (dats m 0 c).after 5 t = iblk m c 5 t := by dsimp only [dats]
/-- What window 6 holds after a grid point. -/
theorem after0_6 (c : Dev nD) (t : Fin cfg0.N) : (dats m 0 c).after 6 t = iblk m c 6 t := by dsimp only [dats]
/-- What window 7 holds after a grid point. -/
theorem after0_7 (c : Dev nD) (t : Fin cfg0.N) : (dats m 0 c).after 7 t = iblk m c 7 t := by dsimp only [dats]
/-- What window 8 holds after a grid point. -/
theorem after0_8 (c : Dev nD) (t : Fin cfg0.N) : (dats m 0 c).after 8 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1 holds before a grid point's body runs. -/
theorem before0_1 (c : Dev nD) (t : Fin cfg0.N) (d) : (dats m 0 c).before 1 t d = iblk m c 1 t :=
  before0_1_of m (dats m 0 c) (A_eq m c 1) (after0_1 m c) t d
/-- What window 2 holds before a grid point's body runs. -/
theorem before0_2 (c : Dev nD) (t : Fin cfg0.N) (d) : (dats m 0 c).before 2 t d = iblk m c 2 t :=
  before0_2_of m (dats m 0 c) (A_eq m c 2) (after0_2 m c) t d
/-- What window 3 holds before a grid point's body runs. -/
theorem before0_3 (c : Dev nD) (t : Fin cfg0.N) (d) : (dats m 0 c).before 3 t d = iblk m c 3 t :=
  before0_3_of m (dats m 0 c) (A_eq m c 3) (after0_3 m c) t d
/-- What window 4 holds before a grid point's body runs. -/
theorem before0_4 (c : Dev nD) (t : Fin cfg0.N) (d) : (dats m 0 c).before 4 t d = iblk m c 4 t :=
  before0_4_of m (dats m 0 c) (A_eq m c 4) (after0_4 m c) t d
/-- What window 5 holds before a grid point's body runs. -/
theorem before0_5 (c : Dev nD) (t : Fin cfg0.N) (d) : (dats m 0 c).before 5 t d = iblk m c 5 t :=
  before0_5_of m (dats m 0 c) (A_eq m c 5) (after0_5 m c) t d
/-- What window 6 holds before a grid point's body runs. -/
theorem before0_6 (c : Dev nD) (t : Fin cfg0.N) (d) : (dats m 0 c).before 6 t d = iblk m c 6 t :=
  before0_6_of m (dats m 0 c) (A_eq m c 6) (after0_6 m c) t d
/-- What window 7 holds before a grid point's body runs. -/
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_8
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_DxIdeal`'s statement (Defs.lean) at any `F` — Proof.lean cites it at `Bits`:
    `theorem Cert.Proof.claim : Cert.Claim := ⟨Cert.DxIdeal.Gen.facts, fun m ρ _ => Cert.DxIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.DxIdeal.Gen

end
-- ==== Proof.Dx.Out.lean ====
/-
What one grid point of the input-gradient kernel stores, over the extended reals.
-/
module

public import proofs.«01_k».proof.Proof.Dx.Scratch
public import proofs.«01_k».proof.Proof.Dx.Frame

@[expose] public section

set_option maxRecDepth 16384
set_option maxHeartbeats 1000000

noncomputable section

namespace Cert.DxIdeal.Gen

open Idealize.ShloMosaic Idealize.ShloMosaic.TcCoe Idealize.ShloMosaic.Tactic
open Idealize.SL Idealize.SL.RA Idealize.SL.BI

/-- The block of the gradient from the two expanded operands, the two weights and their scales. -/
def blockG (s0 s1 : S1.Idx → EReal) (P Q : S512x2048.Idx → EReal) (w0 w1 : S4096x2048.Idx → EReal) : S512x4096.Idx → EReal :=
  fun y => (∑ k : Fin 2048, P (ix2 (y 0) k) * w0 (ix2 (y 1) k)) * s0 (ix1 0) + (∑ k : Fin 2048, Q (ix2 (y 0) k) * w1 (ix2 (y 1) k)) * s1 (ix1 0)

/-- The trip count of the product loop. -/
theorem trips_t2 : k0_t2_loop.trips = 8 := by decide +kernel

/-- Offsets that are zero on both axes. -/
theorem zero2 : (![0, 0] : Fin 2 → ℕ) = fun _ => 0 := by decide

/-- The one-element shape has one index. -/
theorem idx1 {x : S1.Idx} : x = ix1 0 := by
  funext b
  match b with
  | ⟨0, _⟩ => exact Subsingleton.elim (α := Fin 1) _ _

/-- The offsets of one access, by the loop index. -/
theorem off18 : ∀ k : Fin k0_t2_loop.trips, ∀ a, k0_off18 k a = (![512 * k.val, 0] : Fin 2 → ℕ) a := by decide +kernel
/-- The offsets of one access, by the loop index. -/
theorem off19 : ∀ k : Fin k0_t2_loop.trips, ∀ a, k0_off19 k a = (![0, 512 * k.val] : Fin 2 → ℕ) a := by decide +kernel

/-- The stored value of one column block of the output at an index. -/
theorem pay2_apply (v6 : Vec Ideal S512x2048 .bf16) (v8 : Vec Ideal S512x2048 .fp8e4m3) (v10 : Elt Ideal .f32) (v13 : Vec Ideal S512x2048 .bf16) (v15 : Vec Ideal S512x2048 .fp8e4m3) (v17 : Elt Ideal .f32) (r l : Fin 512) :
    k0_pay2 (F := Ideal) v6 v8 v10 v13 v15 v17 (ix2 r l) = (∑ k : Fin 2048, v6 (ix2 r k) * v8 (ix2 l k)) * v10 + (∑ k : Fin 2048, v13 (ix2 r k) * v15 (ix2 l k)) * v17 := by
  pointwise [k0_pay2]

/-- One stored column block, from the blocks it reads, is the tile of `blockG` its rectangle names. -/
theorem piece9_ok (P Q : S512x2048.Idx → EReal) (w0 w1 : S4096x2048.Idx → EReal) (s0 s1 : S1.Idx → EReal)
    (o : Fin 2 → ℕ) (ho : ∀ a, o a + S512x512.size a ≤ S512x4096.size a) (o1 : Fin 2 → ℕ) (ho1 : ∀ a, o1 a + S512x2048.size a ≤ S4096x2048.size a)
    (k : ℕ) (h0 : ∀ a, o a = (![0, 512 * k] : Fin 2 → ℕ) a) (h1 : ∀ a, o1 a = (![512 * k, 0] : Fin 2 → ℕ) a)
    (v6 : Vec Ideal S512x2048 .bf16) (v8 : Vec Ideal S512x2048 .fp8e4m3) (v10 : Elt Ideal .f32) (v13 : Vec Ideal S512x2048 .bf16) (v15 : Vec Ideal S512x2048 .fp8e4m3) (v17 : Elt Ideal .f32)
    (e6 : v6 = P) (e13 : v13 = Q) (e8 : ∀ z, v8 z = w0 ((Rect.unit (s := S4096x2048) o1 S512x2048.size ho1).emb z)) (e15 : ∀ z, v15 z = w1 ((Rect.unit (s := S4096x2048) o1 S512x2048.size ho1).emb z))
    (e10 : v10 = s0 (ix1 0)) (e17 : v17 = s1 (ix1 0)) (x : S512x512.Idx) :
    k0_pay2 (F := Ideal) v6 v8 v10 v13 v15 v17 x = blockG s0 s1 P Q w0 w1 ((Rect.unit (s := S512x4096) o S512x512.size ho).emb x) := by
  have a0 := h0 0
  have a1 := h0 1
  have a2 := h1 0
  have a3 := h1 1
  simp only [Matrix.cons_val_zero, Matrix.cons_val_one] at a0 a1 a2 a3
  rw [eq_ix2 x]
  refine (pay2_apply v6 v8 v10 v13 v15 v17 (x 0) (x 1)).trans ?_
  subst e6 e13 e10 e17
  unfold blockG
  have hP : ∀ q : Fin 2048, (ix2 (x 0 : Fin 512) q : S512x2048.Idx) = ix2 (((Rect.unit (s := S512x4096) o S512x512.size ho).emb x) 0) q := fun q => by
    funext b
    match b with
    | ⟨0, _⟩ => apply Fin.ext; show (x 0).val = o 0 + 1 * (x 0).val; omega
    | ⟨1, _⟩ => rfl
  have hW : ∀ q : Fin 2048, (Rect.unit (s := S4096x2048) o1 S512x2048.size ho1).emb (ix2 (x 1 : Fin 512) q) = ix2 (((Rect.unit (s := S512x4096) o S512x512.size ho).emb x) 1) q := fun q => by
    funext b
    match b with
    | ⟨0, _⟩ => apply Fin.ext; show o1 0 + 1 * (x 1).val = o 1 + 1 * (x 1).val; omega
    | ⟨1, _⟩ => apply Fin.ext; show o1 1 + 1 * q.val = q.val; omega
  have hx : (ix2 (n0 := 512) (n1 := 512) (x 0) (x 1) : S512x512.Idx) = x := (eq_ix2 x).symm
  rw [hx]
  refine congrArg₂ (fun a b : EReal => a * s0 (ix1 0) + b * s1 (ix1 0)) (Finset.sum_congr rfl fun q _ => ?_) (Finset.sum_congr rfl fun q _ => ?_)
  · rw [e8, hW, hP]; rfl
  · rw [e15, hW, hP]; rfl

/-- One trip's piece of the output is the tile of `blockG` its rectangle names. -/
theorem trip_arg9 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (X_arg1 : BufTy.Contents (Elt Ideal) arg1.view.ty) (X_arg2 : BufTy.Contents (Elt Ideal) arg2.view.ty) (X_arg7 : BufTy.Contents (Elt Ideal) arg7.view.ty) (X_arg8 : BufTy.Contents (Elt Ideal) arg8.view.ty) (X_arg10 : BufTy.Contents (Elt Ideal) arg10.view.ty) (X_arg11 : BufTy.Contents (Elt Ideal) arg11.view.ty) (k : Fin k0_t2_loop.trips) :
    ∀ p ∈ tripL_k0_t2 (F := Ideal) 𝒱 c bd i arg1 harg1 arg2 harg2 arg3 harg3 arg4 harg4 arg5 harg5 arg6 harg6 arg7 harg7 arg8 harg8 arg9 harg9 arg10 harg10 arg11 harg11 X_arg1 X_arg2 X_arg7 X_arg8 X_arg10 X_arg11 k, ∀ x : p.1.shape.Idx, p.2 x = blockG (arg1.view.read (Elt Ideal) X_arg1) (arg2.view.read (Elt Ideal) X_arg2) (arg10.view.read (Elt Ideal) X_arg10) (arg11.view.read (Elt Ideal) X_arg11) (arg7.view.read (Elt Ideal) X_arg7) (arg8.view.read (Elt Ideal) X_arg8) (p.1.emb x) := by
  unfold tripL_k0_t2 trip_k0_t2
  dsimp only
  simp only [List.forall_mem_cons]
  refine ⟨fun x => ?_, fun p hp => absurd hp List.not_mem_nil⟩
  exact piece9_ok _ _ _ _ _ _ _ _ (k0_off18 k) (k0_off18_inb k) k.val (off19 k) (off18 k) _ _ _ _ _ _
    (View.ld_unit_zero zero2 _ _) (View.ld_unit_zero zero2 _ _) (fun z => rfl) (fun z => rfl) (congrArg (arg1.view.read (Elt Ideal) X_arg1) idx1) (congrArg (arg2.view.read (Elt Ideal) X_arg2) idx1) x

/-- The pieces of the trips so far are tiles of `blockG`. -/
theorem pb_arg9 (𝒱 : Variants) (c : Dev nD) (bd : Option 𝒱.V) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (X_arg1 : BufTy.Contents (Elt Ideal) arg1.view.ty) (X_arg2 : BufTy.Contents (Elt Ideal) arg2.view.ty) (X_arg7 : BufTy.Contents (Elt Ideal) arg7.view.ty) (X_arg8 : BufTy.Contents (Elt Ideal) arg8.view.ty) (X_arg10 : BufTy.Contents (Elt Ideal) arg10.view.ty) (X_arg11 : BufTy.Contents (Elt Ideal) arg11.view.ty) :
    ∀ n ≤ 8, ∀ p ∈ pb_k0_t2 (F := Ideal) 𝒱 c bd i arg1 harg1 arg2 harg2 arg3 harg3 arg4 harg4 arg5 harg5 arg6 harg6 arg7 harg7 arg8 harg8 arg9 harg9 arg10 harg10 arg11 harg11 X_arg1 X_arg2 X_arg7 X_arg8 X_arg10 X_arg11 n, ∀ x : p.1.shape.Idx, p.2 x = blockG (arg1.view.read (Elt Ideal) X_arg1) (arg2.view.read (Elt Ideal) X_arg2) (arg10.view.read (Elt Ideal) X_arg10) (arg11.view.read (Elt Ideal) X_arg11) (arg7.view.read (Elt Ideal) X_arg7) (arg8.view.read (Elt Ideal) X_arg8) (p.1.emb x)
  | 0, _ => fun p hp => absurd hp (by simp [pb_k0_t2])
  | n + 1, hn => by
    rw [pb_k0_t2_succ 𝒱 c bd i arg1 harg1 arg2 harg2 arg3 harg3 arg4 harg4 arg5 harg5 arg6 harg6 arg7 harg7 arg8 harg8 arg9 harg9 arg10 harg10 arg11 harg11 X_arg1 X_arg2 X_arg7 X_arg8 X_arg10 X_arg11 (⟨n, by have h := trips_t2; omega⟩ : Fin k0_t2_loop.trips)]
    intro p hp
    rcases List.mem_append.mp hp with hp | hp
    · exact trip_arg9 𝒱 c bd i arg1 harg1 arg2 harg2 arg3 harg3 arg4 harg4 arg5 harg5 arg6 harg6 arg7 harg7 arg8 harg8 arg9 harg9 arg10 harg10 arg11 harg11 X_arg1 X_arg2 X_arg7 X_arg8 X_arg10 X_arg11 _ p hp
    · exact pb_arg9 𝒱 c bd i arg1 harg1 arg2 harg2 arg3 harg3 arg4 harg4 arg5 harg5 arg6 harg6 arg7 harg7 arg8 harg8 arg9 harg9 arg10 harg10 arg11 harg11 X_arg1 X_arg2 X_arg7 X_arg8 X_arg10 X_arg11 n (by omega) p hp

/-- What one grid point leaves in the output's block. -/
theorem out_eq (c : Dev nD) (i : grid0.Coords) (arg1 : Memref sig .tc .smem S1 .f32) (harg1 : arg1.IsWhole) (arg2 : Memref sig .tc .smem S1 .f32) (harg2 : arg2.IsWhole) (arg3 : Memref sig .tc .vmem S512x2048 .fp8e5m2) (harg3 : arg3.IsWhole) (arg4 : Memref sig .tc .vmem S512x64 .f32) (harg4 : arg4.IsWhole) (arg5 : Memref sig .tc .vmem S512x2048 .fp8e5m2) (harg5 : arg5.IsWhole) (arg6 : Memref sig .tc .vmem S512x64 .f32) (harg6 : arg6.IsWhole) (arg7 : Memref sig .tc .vmem S4096x2048 .fp8e4m3) (harg7 : arg7.IsWhole) (arg8 : Memref sig .tc .vmem S4096x2048 .fp8e4m3) (harg8 : arg8.IsWhole) (arg9 : Memref sig .tc .vmem S512x4096 .bf16) (harg9 : arg9.IsWhole) (arg10 : Memref sig .tc .vmem S512x2048 .bf16) (harg10 : arg10.IsWhole) (arg11 : Memref sig .tc .vmem S512x2048 .bf16) (harg11 : arg11.IsWhole) (x0 : Vec Ideal S1 .f32) (x1 : Vec Ideal S1 .f32) (x2 : Vec Ideal S512x2048 .fp8e5m2) (x3 : Vec Ideal S512x64 .f32) (x4 : Vec Ideal S512x2048 .fp8e5m2) (x5 : Vec Ideal S512x64 .f32) (x6 : Vec Ideal S4096x2048 .fp8e4m3) (x7 : Vec Ideal S4096x2048 .fp8e4m3) :
    out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 = blockG x0 x1 (expandG x2 x3) (expandG x4 x5) x6 x7 := by
  funext y
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7)]
  refine View.canon_apply_of_pieces _ _ ?_ y (cover0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 y)
  unfold kernelRun0_A
  dsimp only
  intro p hp x
  have h := pb_arg9 Variants.none c none i arg1 harg1 arg2 harg2 arg3 harg3 arg4 harg4 arg5 harg5 arg6 harg6 arg7 harg7 arg8 harg8 arg9 harg9 arg10 harg10 arg11 harg11 (harg1.unread x0) (harg2.unread x1) (harg7.unread x6) (harg8.unread x7) (harg10.unread _) (harg11.unread _) 8 le_rfl p hp x
  rw [h]
  simp only [Memref.IsWhole.read_unread, scr10_eq, scr11_eq]

end Cert.DxIdeal.Gen

end
-- ==== Proof.Dx.Value.lean ====
/-
What the input-gradient kernel writes back, block by block.
-/
module

public import proofs.«01_k».proof.Proof.Dx.Frame
public import Idealize.ShloMosaic.Lib.Pipeline.Value

@[expose] public section

noncomputable section

namespace Cert.DxIdeal.Value

open Cert.DxIdeal Cert.DxIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`), read through the window's block. -/
theorem flushed8 (c : Dev nD) (t : Fin cfg0.N) :
    (dats m 0 c).flushed 8 t = (cfg0.win 8).cut (grid0.coords t) (outsAt0 m c t) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — the kernel's one case, `Gen.outsAt0` by definition. -/
theorem flushed8_A (c : Dev nD) (t : Fin cfg0.N) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)) := by
  simp only [flushed8, outsAt0]

/-- The index map sends distinct grid points to distinct block indices (decided over the 15 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S7680x4096.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0) = (dats m 0 c).arrAt 8 cfg0.N :=
  (h c).1 8

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- After the frame run, argument `main_arg4` is as launched: input window 6 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 6).trans (((dats m 0 c).arrAt_in 6 rfl _).trans ((A_eq m c 6).trans (V_main_arg4 m c)))

/-- After the frame run, argument `main_arg5` is as launched: input window 0 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 0).trans (((dats m 0 c).arrAt_in 0 rfl _).trans ((A_eq m c 0).trans (V_main_arg5 m c)))

/-- After the frame run, argument `main_arg6` is as launched: input window 7 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 7).trans (((dats m 0 c).arrAt_in 7 rfl _).trans ((A_eq m c 7).trans (V_main_arg6 m c)))

/-- After the frame run, argument `main_arg7` is as launched: input window 1 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 1).trans (((dats m 0 c).arrAt_in 1 rfl _).trans ((A_eq m c 1).trans (V_main_arg7 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.DxIdeal.Value

end
-- ==== Proof.Dx.Array.lean ====
/-
The whole result array of the input-gradient kernel, over the extended reals.
-/
module

public import proofs.«01_k».proof.Proof.Dx.Spec
public import proofs.«01_k».proof.Proof.Dx.Out
public import proofs.«01_k».proof.Proof.Dx.Value
public import Idealize.ShloMosaic.Lib.Pipeline.ValueKit.Geometry

@[expose] public section

set_option maxHeartbeats 1000000

noncomputable section

namespace Cert.DxIdeal.Value

open Idealize.ShloMosaic Idealize.ShloMosaic.TcCoe Idealize.ShloMosaic.Tactic Idealize.SL.Sem
open Cert.DxIdeal.Gen

variable (m : (ℓ : Loc nD τ sig) → Buf (Elt Ideal) ℓ)

/-- Which block of its array window 2 is on at each grid point. -/
theorem e2 : ∀ t : Fin cfg0.N, win0_2.index t = ![t.val, 0] := (by decide +kernel : ∀ t : Fin grid0.N, _)
/-- Which block of its array window 3 is on at each grid point. -/
theorem e3 : ∀ t : Fin cfg0.N, win0_3.index t = ![t.val, 0] := (by decide +kernel : ∀ t : Fin grid0.N, _)
/-- Which block of its array window 4 is on at each grid point. -/
theorem e4 : ∀ t : Fin cfg0.N, win0_4.index t = ![t.val, 0] := (by decide +kernel : ∀ t : Fin grid0.N, _)
/-- Which block of its array window 5 is on at each grid point. -/
theorem e5 : ∀ t : Fin cfg0.N, win0_5.index t = ![t.val, 0] := (by decide +kernel : ∀ t : Fin grid0.N, _)
/-- Which block of its array window 8 is on at each grid point. -/
theorem e8 : ∀ t : Fin cfg0.N, win0_8.index t = ![t.val, 0] := (by decide +kernel : ∀ t : Fin grid0.N, _)
/-- Which block of its array window 6 is on at each grid point. -/
theorem e6 : ∀ t : Fin cfg0.N, win0_6.index t = ![0, 0] := (by decide +kernel : ∀ t : Fin grid0.N, _)
/-- Which block of its array window 7 is on at each grid point. -/
theorem e7 : ∀ t : Fin cfg0.N, win0_7.index t = ![0, 0] := (by decide +kernel : ∀ t : Fin grid0.N, _)

/-- The result array after the run is `dxF` of the argument arrays. -/
theorem arr_eq (c : Dev nD) :
    (dats (F := Ideal) m 0 c).arrAt 8 cfg0.N
      = Cert.Spec.dxF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats (F := Ideal) m 0 c).arrAt_eq_of_covers 8 _ (by decide +kernel) fun t hf y => ?_
  blk_simp
  rw [after0_8]
  unfold outsAt0
  rw [out_eq]
  unfold blockG expandG Cert.Spec.dxF Cert.Spec.deqC Cert.Spec.grp
  blk_simp [iblk]
  rw [V_main_arg0 m c, V_main_arg1 m c, V_main_arg2 m c, V_main_arg3 m c, V_main_arg4 m c, V_main_arg5 m c, V_main_arg6 m c, V_main_arg7 m c]
  have q0 : (win0_0.blk t).view.emb (ix1 0) = ix1 0 := idx1
  have q1 : (win0_1.blk t).view.emb (ix1 0) = ix1 0 := idx1
  rw [q0, q1]
  refine congrArg₂ (fun a b : EReal => a * _ + b * _) (Finset.sum_congr rfl fun k _ => ?_) (Finset.sum_congr rfl fun k _ => ?_)
  · refine congrArg₂ (fun a b : EReal => a * b) (congrArg₂ (fun a b : EReal => a * b) (congrArg _ ?_) (congrArg _ ?_)) (congrArg _ ?_)
    · blk_ext [e2, e8]
    · blk_ext [e3, e8]
    · blk_ext [e6, e8]
  · refine congrArg₂ (fun a b : EReal => a * b) (congrArg₂ (fun a b : EReal => a * b) (congrArg _ ?_) (congrArg _ ?_)) (congrArg _ ?_)
    · blk_ext [e4, e8]
    · blk_ext [e5, e8]
    · blk_ext [e7, e8]

end Cert.DxIdeal.Value

end
-- ==== Proof.Dx.RefArray.lean ====
/-
The whole result array of the input gradient's reference, over the extended reals.
-/
module

public import proofs.«01_k».proof.Proof.Dx.Spec
public import proofs.«01_k».proof.Proof.Gen.DxRefIdeal.Value
public import Idealize.ShloMosaic.Lib.Pipeline.ValueKit.Geometry

@[expose] public section

set_option maxHeartbeats 1000000

noncomputable section

namespace Cert.DxRefIdeal.Value

open Idealize.ShloMosaic Idealize.ShloMosaic.TcCoe Idealize.ShloMosaic.Tactic Idealize.SL.Sem
open Cert.DxRefIdeal.Gen

variable (m : (ℓ : Loc nD τ sig) → Buf (Elt Ideal) ℓ)

/-- Offsets that are zero on both axes. -/
theorem zero2 : (![0, 0] : Fin 2 → ℕ) = fun _ => 0 := by decide

/-- The one-element shape has one index. -/
theorem idx1 {x : S1.Idx} : x = ix1 0 := by
  funext b
  match b with
  | ⟨0, _⟩ => exact Subsingleton.elim (α := Fin 1) _ _

/-- The value the reference stores, at an index. -/
theorem pay1_apply (v0 : Vec Ideal S4096x2048 .fp8e4m3) (v2 : Vec Ideal S4096x2048 .fp8e4m3) (v4 : Vec Ideal S7680x2048 .fp8e5m2) (v5 : Vec Ideal S7680x64 .f32) (v13 : Elt Ideal .f32) (v16 : Vec Ideal S7680x2048 .fp8e5m2) (v17 : Vec Ideal S7680x64 .f32) (v25 : Elt Ideal .f32) (r : Fin 7680) (l : Fin 4096) :
    k0_pay1 (F := Ideal) v0 v2 v4 v5 v13 v16 v17 v25 (ix2 r l)
      = (∑ k : Fin 2048, Cert.Spec.deqC (m := 7680) (n := 64) v4 v5 r k * v0 (ix2 l k)) * v13 + (∑ k : Fin 2048, Cert.Spec.deqC (m := 7680) (n := 64) v16 v17 r k * v2 (ix2 l k)) * v25 := by
  unfold Cert.Spec.deqC Cert.Spec.grp
  pointwise [k0_pay1]

/-- What the reference's one grid point leaves in the result's block. -/
theorem out_eq (c : Dev nD) (arg0 : Memref sig .tc .vmem S7680x2048 .fp8e5m2) (harg0 : arg0.IsWhole) (arg1 : Memref sig .tc .vmem S7680x64 .f32) (harg1 : arg1.IsWhole) (arg2 : Memref sig .tc .vmem S7680x2048 .fp8e5m2) (harg2 : arg2.IsWhole) (arg3 : Memref sig .tc .vmem S7680x64 .f32) (harg3 : arg3.IsWhole) (arg4 : Memref sig .tc .vmem S4096x2048 .fp8e4m3) (harg4 : arg4.IsWhole) (arg5 : Memref sig .tc .smem S1 .f32) (harg5 : arg5.IsWhole) (arg6 : Memref sig .tc .vmem S4096x2048 .fp8e4m3) (harg6 : arg6.IsWhole) (arg7 : Memref sig .tc .smem S1 .f32) (harg7 : arg7.IsWhole) (arg8 : Memref sig .tc .vmem S7680x4096 .bf16) (harg8 : arg8.IsWhole) (x0 : Vec Ideal S7680x2048 .fp8e5m2) (x1 : Vec Ideal S7680x64 .f32) (x2 : Vec Ideal S7680x2048 .fp8e5m2) (x3 : Vec Ideal S7680x64 .f32) (x4 : Vec Ideal S4096x2048 .fp8e4m3) (x5 : Vec Ideal S1 .f32) (x6 : Vec Ideal S4096x2048 .fp8e4m3) (x7 : Vec Ideal S1 .f32) :
    out0_A_8 (F := Ideal) c arg0 harg0 arg1 harg1 arg2 harg2 arg3 harg3 arg4 harg4 arg5 harg5 arg6 harg6 arg7 harg7 arg8 harg8 x0 x1 x2 x3 x4 x5 x6 x7 = Cert.Spec.dxF x0 x1 x2 x3 x4 x5 x6 x7 := by
  unfold out0_A_8
  rw [View.read_writes_eq_canon _ _ _ (cover0_A_8 (F := Ideal) c arg0 harg0 arg1 harg1 arg2 harg2 arg3 harg3 arg4 harg4 arg5 harg5 arg6 harg6 arg7 harg7 arg8 harg8 x0 x1 x2 x3 x4 x5 x6 x7)]
  unfold kernelRun0_A
  dsimp only
  refine (View.canon_unit_zero zero2 _ _).trans ?_
  funext y
  rw [eq_ix2 y]
  refine (pay1_apply _ _ _ _ _ _ _ _ (y 0) (y 1)).trans ?_
  simp only [View.readAt_eq_ld, View.ld_unit_zero (S := S7680x2048) (off := ![0, 0]) zero2, View.ld_unit_zero (S := S7680x64) (off := ![0, 0]) zero2, View.ld_unit_zero (S := S4096x2048) (off := ![0, 0]) zero2, Memref.IsWhole.read_unread]
  have h5 : kernelRun0_A.sl.r c arg5 harg5 x5 = x5 (ix1 0) := (congrArg (arg5.view.read (Elt Ideal) (harg5.unread x5)) idx1).trans (congrFun (harg5.read_unread x5) _)
  have h7 : kernelRun0_A.sl.r_1 c arg7 harg7 x7 = x7 (ix1 0) := (congrArg (arg7.view.read (Elt Ideal) (harg7.unread x7)) idx1).trans (congrFun (harg7.read_unread x7) _)
  have hw : ∀ (w : Vec Ideal S4096x2048 .fp8e4m3) (z : S4096x2048.Idx), View.ld w (Rect.unit (s := S4096x2048) ![0, 0] ![4096, 2048] inb_S4096x2048_S4096x2048_0_0) z = w z :=
    fun w z => congrFun (View.ld_unit_zero (S := S4096x2048) (off := ![0, 0]) zero2 _ w) z
  rw [h5, h7]
  exact congrArg₂ (fun a b : EReal => a * _ + b * _) (Finset.sum_congr rfl fun k _ => congrArg (fun a : EReal => _ * a) (hw x4 _)) (Finset.sum_congr rfl fun k _ => congrArg (fun a : EReal => _ * a) (hw x6 _))

/-- Which block of its array window 0 is on at each grid point. -/
theorem e0 : ∀ t : Fin cfg0.N, win0_0.index t = ![0, 0] := (by decide +kernel : ∀ t : Fin grid0.N, _)
/-- Which block of its array window 1 is on at each grid point. -/
theorem e1 : ∀ t : Fin cfg0.N, win0_1.index t = ![0, 0] := (by decide +kernel : ∀ t : Fin grid0.N, _)
/-- Which block of its array window 2 is on at each grid point. -/
theorem e2 : ∀ t : Fin cfg0.N, win0_2.index t = ![0, 0] := (by decide +kernel : ∀ t : Fin grid0.N, _)
/-- Which block of its array window 3 is on at each grid point. -/
theorem e3 : ∀ t : Fin cfg0.N, win0_3.index t = ![0, 0] := (by decide +kernel : ∀ t : Fin grid0.N, _)
/-- Which block of its array window 4 is on at each grid point. -/
theorem e4 : ∀ t : Fin cfg0.N, win0_4.index t = ![0, 0] := (by decide +kernel : ∀ t : Fin grid0.N, _)
/-- Which block of its array window 5 is on at each grid point. -/
theorem e5 : ∀ t : Fin cfg0.N, win0_5.index t = ![0] := (by decide +kernel : ∀ t : Fin grid0.N, _)
/-- Which block of its array window 6 is on at each grid point. -/
theorem e6 : ∀ t : Fin cfg0.N, win0_6.index t = ![0, 0] := (by decide +kernel : ∀ t : Fin grid0.N, _)
/-- Which block of its array window 7 is on at each grid point. -/
theorem e7 : ∀ t : Fin cfg0.N, win0_7.index t = ![0] := (by decide +kernel : ∀ t : Fin grid0.N, _)
/-- Which block of its array window 8 is on at each grid point. -/
theorem e8 : ∀ t : Fin cfg0.N, win0_8.index t = ![0, 0] := (by decide +kernel : ∀ t : Fin grid0.N, _)

/-- Input 0's one block is the whole argument. -/
theorem iblk0 (c : Dev nD) (t : Fin cfg0.N) : iblk (F := Ideal) m c 0 t = m ((c : Thread nD τ).loc main_arg0) := by
  funext z
  blk_simp [iblk]
  rw [V_main_arg0 m c]
  refine congrArg _ ?_
  blk_ext [e0]

/-- Input 1's one block is the whole argument. -/
theorem iblk1 (c : Dev nD) (t : Fin cfg0.N) : iblk (F := Ideal) m c 1 t = m ((c : Thread nD τ).loc main_arg1) := by
  funext z
  blk_simp [iblk]
  rw [V_main_arg1 m c]
  refine congrArg _ ?_
  blk_ext [e1]

/-- Input 2's one block is the whole argument. -/
theorem iblk2 (c : Dev nD) (t : Fin cfg0.N) : iblk (F := Ideal) m c 2 t = m ((c : Thread nD τ).loc main_arg2) := by
  funext z
  blk_simp [iblk]
  rw [V_main_arg2 m c]
  refine congrArg _ ?_
  blk_ext [e2]

/-- Input 3's one block is the whole argument. -/
theorem iblk3 (c : Dev nD) (t : Fin cfg0.N) : iblk (F := Ideal) m c 3 t = m ((c : Thread nD τ).loc main_arg3) := by
  funext z
  blk_simp [iblk]
  rw [V_main_arg3 m c]
  refine congrArg _ ?_
  blk_ext [e3]

/-- Input 4's one block is the whole argument. -/
theorem iblk4 (c : Dev nD) (t : Fin cfg0.N) : iblk (F := Ideal) m c 4 t = m ((c : Thread nD τ).loc main_arg4) := by
  funext z
  blk_simp [iblk]
  rw [V_main_arg4 m c]
  refine congrArg _ ?_
  blk_ext [e4]

/-- Input 5's one block is the whole argument. -/
theorem iblk5 (c : Dev nD) (t : Fin cfg0.N) : iblk (F := Ideal) m c 5 t = m ((c : Thread nD τ).loc main_arg5) := by
  funext z
  blk_simp [iblk]
  rw [V_main_arg5 m c]
  refine congrArg _ ?_
  blk_ext [e5]

/-- Input 6's one block is the whole argument. -/
theorem iblk6 (c : Dev nD) (t : Fin cfg0.N) : iblk (F := Ideal) m c 6 t = m ((c : Thread nD τ).loc main_arg6) := by
  funext z
  blk_simp [iblk]
  rw [V_main_arg6 m c]
  refine congrArg _ ?_
  blk_ext [e6]

/-- Input 7's one block is the whole argument. -/
theorem iblk7 (c : Dev nD) (t : Fin cfg0.N) : iblk (F := Ideal) m c 7 t = m ((c : Thread nD τ).loc main_arg7) := by
  funext z
  blk_simp [iblk]
  rw [V_main_arg7 m c]
  refine congrArg _ ?_
  blk_ext [e7]

/-- The reference's result array is `dxF` of the argument arrays. -/
theorem arr_eq (c : Dev nD) :
    (dats (F := Ideal) m 0 c).arrAt 8 cfg0.N
      = Cert.Spec.dxF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats (F := Ideal) m 0 c).arrAt_eq_of_covers 8 _ (by decide +kernel) fun t hf y => ?_
  blk_simp
  rw [after0_8]
  unfold outsAt0
  rw [out_eq, iblk0, iblk1, iblk2, iblk3, iblk4, iblk5, iblk6, iblk7]
  refine congrArg _ ?_
  blk_ext [e8]

end Cert.DxRefIdeal.Value

end
-- ==== Proof.Dx.Algebraic.lean ====
/-
The input-gradient kernel and its reference compute the same array over the extended reals.
-/
module

public import proofs.«01_k».proof.Defs
public import proofs.«01_k».proof.Proof.Dx.Array
public import proofs.«01_k».proof.Proof.Dx.RefArray

@[expose] public section

noncomputable section

namespace Cert.Proof

open Idealize.ShloMosaic Idealize.SL.Sem

/-- Both runs end with `dxF` of the arguments in the result array, and keep the arguments. -/
theorem dx_algebraic : Cert.algebraic_DxIdeal_DxRefIdeal (hDxIdeal := Cert.DxIdeal.Gen.facts) (hDxRefIdeal := Cert.DxRefIdeal.Gen.facts) := by
  intro m g m' g' _ hm
  refine ⟨fun c => (Cert.DxIdeal.Gen.dats (F := Ideal) m 0 c).arrAt 8 Cert.DxIdeal.cfg0.N, ?_, ?_⟩
  · exact (θ_run _ _ _).mono (fun r h c => h c) (Cert.DxIdeal.Value.run_blocks (F := Ideal) m g)
  · refine (θ_run _ _ _).mono (fun r h c => ⟨?_, (h c).2⟩) (Cert.DxRefIdeal.Value.run_blocks (F := Ideal) m' g')
    refine (h c).1.trans ?_
    obtain ⟨h0, h1, h2, h3, h4, h5, h6, h7⟩ := hm c
    refine (Cert.DxRefIdeal.Value.arr_eq m' c).trans (Eq.trans ?_ (Cert.DxIdeal.Value.arr_eq m c).symm)
    rw [h0, h1, h2, h3, h4, h5, h6, h7]

end Cert.Proof

end
-- ==== Proof.DwOut.Spec.lean ====
/-
The quantiser of a group of 32 and the output-side weight gradient as functions of the argument arrays, over the extended reals.
-/
module

public import proofs.«01_k».proof.Proof.Dx.Spec

@[expose] public section

noncomputable section

namespace Cert.Spec

open Idealize.ShloMosaic

/-- The largest absolute value of 32 numbers. -/
def amax (f : Fin 32 → EReal) : EReal :=
  Finset.fold max (Ideal.ofBits .f32 4286578688#32) (fun x => max (f x) (-(f x))) Finset.univ

/-- `⌊log2 (a / 57344)⌋`, by natural logarithms and with the constant `1 / 57344` as `f32` has it. -/
def flog (a : EReal) : EReal :=
  Ideal.liftRound Int.floor (Ideal.div (Ideal.log (a * Ideal.ofBits .f32 932333861#32)) (Ideal.log (Ideal.ofBits .f32 1073741824#32)))

/-- The exponent of the scale of a group whose largest absolute value is `a`: `⌊log2 (a / 57344)⌋ + 1`, and `0` for a group of zeros. -/
def gexp (a : EReal) : EReal := if a = 0 then 0 else flog a + 1

/-- The scale of a group whose largest absolute value is `a`: two to its exponent. -/
def gscl (a : EReal) : EReal := Ideal.exp2 (gexp a)

/-- What a number is multiplied by before it is clipped: two to the negated exponent of its group. -/
def ginv (a : EReal) : EReal := Ideal.exp2 (0 - gexp a)

/-- A number clipped to the largest finite values of the code format. -/
def clipQ (x : EReal) : EReal := min (Ideal.ofBits .f32 1197473792#32) (max (Ideal.ofBits .f32 3344957440#32) x)

/-- The largest absolute value of group `g` of 32 rows, in column `l`. -/
def gmax {m n : ℕ} (X : (⟨2, ![32 * n, m]⟩ : Shape).Idx → EReal) (g : Fin n) (l : Fin m) : EReal :=
  amax fun x => X (ix2 (⟨32 * g.val + x.val, by have := g.isLt; have := x.isLt; omega⟩ : Fin (32 * n)) l)

/-- The codes of an array quantised in groups of 32 rows. -/
def qcode {m n : ℕ} (X : (⟨2, ![32 * n, m]⟩ : Shape).Idx → EReal) (k : Fin (32 * n)) (l : Fin m) : EReal :=
  clipQ (X (ix2 k l) * ginv (gmax X (grp k) l))

/-- The scales of an array quantised in groups of 32 rows. -/
def qscale {m n : ℕ} (X : (⟨2, ![32 * n, m]⟩ : Shape).Idx → EReal) (g : Fin n) (l : Fin m) : EReal := gscl (gmax X g l)

/-- The codes of the output gradient. -/
def dycF (a2 : (⟨2, ![7680, 4096]⟩ : Shape).Idx → EReal) : (⟨2, ![7680, 4096]⟩ : Shape).Idx → EReal :=
  fun y => qcode (m := 4096) (n := 240) a2 (y 0) (y 1)

/-- The scales of the output gradient. -/
def dycsF (a2 : (⟨2, ![7680, 4096]⟩ : Shape).Idx → EReal) : (⟨2, ![240, 4096]⟩ : Shape).Idx → EReal :=
  fun y => qscale (m := 4096) (n := 240) a2 (y 0) (y 1)

/-- `dw_out[r, d] = Σ_t mc[t, r] * dy[t, d]` over the tokens `t`, both being codes times the scale of their group of 32 tokens. -/
def dwOutF (a0 : (⟨2, ![7680, 2048]⟩ : Shape).Idx → EReal) (a1 : (⟨2, ![240, 2048]⟩ : Shape).Idx → EReal)
    (a2 : (⟨2, ![7680, 4096]⟩ : Shape).Idx → EReal) : (⟨2, ![2048, 4096]⟩ : Shape).Idx → EReal :=
  fun y => ∑ t : Fin 7680, deqR (m := 2048) (n := 240) a0 a1 t (y 0)
    * (qcode (m := 4096) (n := 240) a2 t (y 1) * qscale (m := 4096) (n := 240) a2 (grp (n := 240) t) (y 1))

/-- The kernel's power of two: two to the floor of the logarithm, which is `0` for a group of zeros. -/
def gpow (a : EReal) : EReal := Ideal.exp2 (flog a)

/-- The constant `1 / 57344` is a positive real number. -/
theorem cst_pos : ∃ r : ℝ, 0 < r ∧ Ideal.ofBits .f32 932333861#32 = (r : EReal) := by
  refine ⟨_, ?_, by simp [Ideal.ofBits, Ideal.ieee, -EReal.coe_mul]; rfl⟩
  positivity

/-- The constant two. -/
theorem cst_two : Ideal.ofBits .f32 1073741824#32 = ((2 : ℝ) : EReal) := by
  simp [Ideal.ofBits, Ideal.ieee, -EReal.coe_mul]; norm_num

/-- The largest of absolute values is not negative. -/
theorem amax_nonneg (f : Fin 32 → EReal) : 0 ≤ amax f := by
  unfold amax
  refine (Finset.le_fold_max (0 : EReal)).mpr (Or.inr ⟨0, Finset.mem_univ _, ?_⟩)
  show (0 : EReal) ≤ max (f 0) (-(f 0))
  rcases le_total 0 (f 0) with h | h
  · exact le_max_of_le_left h
  · exact le_max_of_le_right (EReal.neg_nonneg.mpr h)

/-- The cases of the logarithm's floor: a group of zeros, an infinite group, and an integer for the rest. -/
theorem flog_cases {a : EReal} (h : 0 ≤ a) : (a = 0 ∧ flog a = ⊥) ∨ (a ≠ 0 ∧ flog a = ⊤) ∨ (a ≠ 0 ∧ ∃ n : ℤ, flog a = ((n : ℝ) : EReal)) := by
  obtain ⟨c, hc, he⟩ := cst_pos
  have h2 : Ideal.log (Ideal.ofBits .f32 1073741824#32) = ((Real.log 2 : ℝ) : EReal) := by
    rw [cst_two, Ideal.log_coe, if_neg (by norm_num)]
  have hl : (0 : ℝ) < Real.log 2 := Real.log_pos (by norm_num)
  have hl' : (0 : ℝ) < 1 / Real.log 2 := by positivity
  unfold flog
  rw [he, h2, Ideal.div_coe hl.ne']
  induction a with
  | bot => exact absurd h (by simp)
  | top =>
    refine Or.inr (Or.inl ⟨EReal.top_ne_zero, ?_⟩)
    rw [EReal.top_mul_coe_of_pos hc, Ideal.log_top, EReal.top_mul_coe_of_pos hl', Ideal.liftRound_top]
  | coe r =>
    have hr : 0 ≤ r := by exact_mod_cast h
    rw [← EReal.coe_mul, Ideal.log_coe]
    rcases hr.eq_or_lt with h0 | h0
    · refine Or.inl ⟨by rw [← h0]; rfl, ?_⟩
      rw [if_pos (by rw [← h0]; simp), EReal.bot_mul_coe_of_pos hl', Ideal.liftRound_bot]
    · refine Or.inr (Or.inr ⟨by exact_mod_cast h0.ne', ⟨⌊Real.log (r * c) * (1 / Real.log 2)⌋, ?_⟩⟩)
      rw [if_neg (not_le.mpr (mul_pos h0 hc)), ← EReal.coe_mul, Ideal.liftRound_coe]

/-- The kernel's scale (one for a power of zero, else twice the power) is the scale. -/
theorem scl_eq {a : EReal} (h : 0 ≤ a) : (if gpow a = 0 then 1 else gpow a + gpow a) = gscl a := by
  unfold gscl gexp gpow
  rcases flog_cases h with ⟨h0, hf⟩ | ⟨h0, hf⟩ | ⟨h0, n, hf⟩
  · rw [hf, Ideal.exp2_bot, if_pos rfl, if_pos h0]
    show (1 : EReal) = ((Real.rpow 2 0 : ℝ) : EReal)
    simp
  · rw [hf, Ideal.exp2_top, if_neg EReal.top_ne_zero, if_neg h0]
    show (⊤ + ⊤ : EReal) = Ideal.exp2 (⊤ + ((1 : ℝ) : EReal))
    rw [EReal.top_add_coe, Ideal.exp2_top, EReal.top_add_top]
  · have hp : (0 : ℝ) < Real.rpow 2 n := Real.rpow_pos_of_pos (by norm_num) _
    rw [hf, Ideal.exp2_coe, if_neg (by exact_mod_cast hp.ne'), if_neg h0]
    show _ = Ideal.exp2 (((n : ℝ) : EReal) + ((1 : ℝ) : EReal))
    rw [← EReal.coe_add, ← EReal.coe_add, Ideal.exp2_coe]
    congr 1
    show (2 : ℝ) ^ (n : ℝ) + (2 : ℝ) ^ (n : ℝ) = (2 : ℝ) ^ ((n : ℝ) + 1)
    rw [Real.rpow_add (by norm_num), Real.rpow_one]; ring

/-- One over the scale is two to the negated exponent. -/
theorem inv_eq {a : EReal} (h : 0 ≤ a) : Ideal.div 1 (gscl a) = ginv a := by
  unfold gscl ginv gexp
  rcases flog_cases h with ⟨h0, hf⟩ | ⟨h0, hf⟩ | ⟨h0, n, hf⟩
  · rw [if_pos h0]
    have e : Ideal.exp2 0 = ((1 : ℝ) : EReal) := by
      show ((Real.rpow 2 0 : ℝ) : EReal) = _
      simp
    rw [sub_zero, e, Ideal.div_coe one_ne_zero]
    simp
  · rw [if_neg h0, hf]
    have e : (⊤ : EReal) + 1 = ⊤ := EReal.top_add_coe 1
    rw [e, Ideal.exp2_top, sub_eq_add_neg, zero_add, EReal.neg_top, Ideal.exp2_bot]
    unfold Ideal.div
    rw [if_neg EReal.top_ne_zero, EReal.inv_top, mul_zero]
  · have hp : (0 : ℝ) < Real.rpow 2 ((n : ℝ) + 1) := Real.rpow_pos_of_pos (by norm_num) _
    rw [if_neg h0, hf]
    have e : ((n : ℝ) : EReal) + 1 = (((n : ℝ) + 1 : ℝ) : EReal) := rfl
    have e2 : (0 : EReal) - (((n : ℝ) + 1 : ℝ) : EReal) = ((-((n : ℝ) + 1) : ℝ) : EReal) := by
      rw [sub_eq_add_neg, zero_add, EReal.coe_neg]
    rw [e, e2, Ideal.exp2_coe, Ideal.exp2_coe, Ideal.div_coe hp.ne', one_mul]
    congr 1
    show 1 / (2 : ℝ) ^ ((n : ℝ) + 1) = (2 : ℝ) ^ (-((n : ℝ) + 1))
    rw [Real.rpow_neg (by norm_num), one_div]

end Cert.Spec

end
-- ==== Proof.DwOut.Scratch.lean ====
/-
What one grid point of the output-side weight-gradient kernel stores for each group of 32 tokens, over the extended reals: the
group's codes, its scales, and the expanded operands of the product.
-/
module

public import proofs.«01_k».proof.Proof.DwOut.Spec
public import proofs.«01_k».proof.Proof.Gen.DwOutIdeal.Value
public import Idealize.ShloMosaic.Lib.Pipeline.ValueKit.Geometry
public import Idealize.ShloMosaic.Lib.Pipeline.ValueKit.Acc
public import Idealize.ShloMosaic.Lib.Pointwise

@[expose] public section

set_option maxRecDepth 16384
set_option maxHeartbeats 4000000

noncomputable section

namespace Cert.DwOutIdeal.Gen

open Idealize.ShloMosaic Idealize.ShloMosaic.TcCoe Idealize.ShloMosaic.Tactic
open Idealize.SL Idealize.SL.RA Idealize.SL.BI

/-- Codes times the scales of their groups of 32 rows. -/
def expandR (X : S768x2048.Idx → EReal) (Sc : S24x2048.Idx → EReal) : S768x2048.Idx → EReal :=
  fun y => Cert.Spec.deqR (m := 2048) (n := 24) X Sc (y 0) (y 1)

/-- The codes of a block of the output gradient. -/
def codeB (X : S768x1024.Idx → EReal) : S768x1024.Idx → EReal :=
  fun y => Cert.Spec.qcode (m := 1024) (n := 24) X (y 0) (y 1)

/-- The scales of a block of the output gradient. -/
def scaleB (X : S768x1024.Idx → EReal) : S24x1024.Idx → EReal :=
  fun y => Cert.Spec.qscale (m := 1024) (n := 24) X (y 0) (y 1)

/-- The codes of a block of the output gradient times their scales. -/
def deqB (X : S768x1024.Idx → EReal) : S768x1024.Idx → EReal :=
  fun y => Cert.Spec.qcode (m := 1024) (n := 24) X (y 0) (y 1) * Cert.Spec.qscale (m := 1024) (n := 24) X (Cert.Spec.grp (n := 24) (y 0)) (y 1)

/-- The scale row the kernel computes from a group, at an index. -/
theorem pay4_apply (v : Vec Ideal S32x1024 .bf16) (r : Fin 8) (l : Fin 1024) :
    k0_pay4 (F := Ideal) v (ix2 r l) = Cert.Spec.gscl (Cert.Spec.amax fun x => v (ix2 x l)) := by
  rw [← Cert.Spec.scl_eq (Cert.Spec.amax_nonneg _)]
  unfold Cert.Spec.gpow Cert.Spec.flog Cert.Spec.amax
  pointwise [k0_pay4, k0_pay3]
  rfl

/-- The codes the kernel computes from a group, at an index. -/
theorem pay5_apply (v : Vec Ideal S32x1024 .bf16) (r : Fin 32) (l : Fin 1024) :
    k0_pay5 (F := Ideal) v (ix2 r l) = Cert.Spec.clipQ (v (ix2 r l) * Cert.Spec.ginv (Cert.Spec.amax fun x => v (ix2 x l))) := by
  rw [← Cert.Spec.inv_eq (Cert.Spec.amax_nonneg _)]
  unfold Cert.Spec.clipQ
  pointwise [k0_pay5, k0_pay3, pay4_apply]

/-- The scales the kernel stores from a group, at an index. -/
theorem pay6_apply (v : Vec Ideal S32x1024 .bf16) (r : Fin 1) (l : Fin 1024) :
    k0_pay6 (F := Ideal) (k0_pay4 v) (ix2 r l) = Cert.Spec.gscl (Cert.Spec.amax fun x => v (ix2 x l)) := by
  pointwise [k0_pay6, pay4_apply]

/-- The codes times scales the kernel stores from a group, at an index. -/
theorem pay7_apply (v : Vec Ideal S32x1024 .bf16) (r : Fin 32) (l : Fin 1024) :
    k0_pay7 (F := Ideal) (k0_pay4 v) (k0_pay5 v) (ix2 r l) = Cert.Spec.clipQ (v (ix2 r l) * Cert.Spec.ginv (Cert.Spec.amax fun x => v (ix2 x l)))
      * Cert.Spec.gscl (Cert.Spec.amax fun x => v (ix2 x l)) := by
  pointwise [k0_pay7, pay4_apply, pay5_apply]

/-- The largest absolute value of a loaded group is that of the block's group. -/
theorem amax_ld (X : S768x1024.Idx → Elt Ideal .bf16) (o : Fin 2 → ℕ) (ho : ∀ a, o a + S32x1024.size a ≤ S768x1024.size a) (g : ℕ) (hg : g < 24)
    (h0 : ∀ a, o a = (![32 * g, 0] : Fin 2 → ℕ) a) (l : Fin 1024) :
    (Cert.Spec.amax fun x => View.ld X (Rect.unit (s := S768x1024) o S32x1024.size ho) (ix2 x l)) = Cert.Spec.gmax (m := 1024) (n := 24) X ⟨g, hg⟩ l := by
  have e0 := h0 0
  have e1 := h0 1
  simp only [Matrix.cons_val_zero, Matrix.cons_val_one] at e0 e1
  unfold Cert.Spec.gmax
  refine congrArg Cert.Spec.amax (funext fun x => congrArg X ?_)
  funext b
  match b with
  | ⟨0, _⟩ => exact Fin.ext (by show o 0 + 1 * x.val = 32 * g + x.val; omega)
  | ⟨1, _⟩ => exact Fin.ext (by show o 1 + 1 * l.val = l.val; omega)

/-- The stored codes of a group are its tile of the block's codes. -/
theorem pieceC_ok (X : S768x1024.Idx → Elt Ideal .bf16) (o : Fin 2 → ℕ) (ho : ∀ a, o a + S32x1024.size a ≤ S768x1024.size a) (g : ℕ) (hg : g < 24)
    (h0 : ∀ a, o a = (![32 * g, 0] : Fin 2 → ℕ) a) (x : S32x1024.Idx) :
    k0_pay5 (F := Ideal) (View.ld X (Rect.unit (s := S768x1024) o S32x1024.size ho)) x = codeB X ((Rect.unit (s := S768x1024) o S32x1024.size ho).emb x) := by
  obtain ⟨r, l, rfl⟩ : ∃ (r : Fin 32) (l : Fin 1024), x = ix2 r l := ⟨x 0, x 1, eq_ix2 x⟩
  have e0 := h0 0
  have e1 := h0 1
  have hx := r.isLt
  simp only [Matrix.cons_val_zero, Matrix.cons_val_one] at e0 e1
  have q0 : Cert.Spec.grp (n := 24) ((Rect.unit (s := S768x1024) o S32x1024.size ho).emb (ix2 r l) 0) = ⟨g, hg⟩ :=
    Fin.ext (by show (o 0 + 1 * r.val) / 32 = g; omega)
  have q1 : (Rect.unit (s := S768x1024) o S32x1024.size ho).emb (ix2 r l) 1 = l := Fin.ext (by show o 1 + 1 * l.val = l.val; omega)
  refine (pay5_apply _ _ _).trans ?_
  rw [amax_ld X o ho g hg h0]
  unfold codeB Cert.Spec.qcode
  rw [q0, q1]
  refine congrArg (fun t : EReal => Cert.Spec.clipQ (t * _)) (congrArg X ?_)
  funext b
  match b with
  | ⟨0, _⟩ => rfl
  | ⟨1, _⟩ => exact Fin.ext (by show o 1 + 1 * l.val = l.val; omega)

/-- The stored scales of a group are its row of the block's scales. -/
theorem pieceS_ok (X : S768x1024.Idx → Elt Ideal .bf16) (o : Fin 2 → ℕ) (ho : ∀ a, o a + S32x1024.size a ≤ S768x1024.size a) (g : ℕ) (hg : g < 24)
    (o1 : Fin 2 → ℕ) (ho1 : ∀ a, o1 a + S1x1024.size a ≤ S24x1024.size a)
    (h0 : ∀ a, o a = (![32 * g, 0] : Fin 2 → ℕ) a) (h1 : ∀ a, o1 a = (![g, 0] : Fin 2 → ℕ) a) (x : S1x1024.Idx) :
    k0_pay6 (F := Ideal) (k0_pay4 (View.ld X (Rect.unit (s := S768x1024) o S32x1024.size ho))) x = scaleB X ((Rect.unit (s := S24x1024) o1 S1x1024.size ho1).emb x) := by
  obtain ⟨r, l, rfl⟩ : ∃ (r : Fin 1) (l : Fin 1024), x = ix2 r l := ⟨x 0, x 1, eq_ix2 x⟩
  have e0 := h1 0
  have e1 := h1 1
  have hx := r.isLt
  simp only [Matrix.cons_val_zero, Matrix.cons_val_one] at e0 e1
  have q0 : (Rect.unit (s := S24x1024) o1 S1x1024.size ho1).emb (ix2 r l) 0 = (⟨g, hg⟩ : Fin 24) := Fin.ext (by show o1 0 + 1 * r.val = g; omega)
  have q1 : (Rect.unit (s := S24x1024) o1 S1x1024.size ho1).emb (ix2 r l) 1 = l := Fin.ext (by show o1 1 + 1 * l.val = l.val; omega)
  refine (pay6_apply _ _ _).trans ?_
  rw [amax_ld X o ho g hg h0]
  unfold scaleB Cert.Spec.qscale
  rw [q0, q1]

/-- The stored product of a group's codes and scales is its tile of the block's. -/
theorem pieceD_ok (X : S768x1024.Idx → Elt Ideal .bf16) (o : Fin 2 → ℕ) (ho : ∀ a, o a + S32x1024.size a ≤ S768x1024.size a) (g : ℕ) (hg : g < 24)
    (h0 : ∀ a, o a = (![32 * g, 0] : Fin 2 → ℕ) a) (x : S32x1024.Idx) :
    k0_pay7 (F := Ideal) (k0_pay4 (View.ld X (Rect.unit (s := S768x1024) o S32x1024.size ho))) (k0_pay5 (View.ld X (Rect.unit (s := S768x1024) o S32x1024.size ho))) x
      = deqB X ((Rect.unit (s := S768x1024) o S32x1024.size ho).emb x) := by
  obtain ⟨r, l, rfl⟩ : ∃ (r : Fin 32) (l : Fin 1024), x = ix2 r l := ⟨x 0, x 1, eq_ix2 x⟩
  have h := pieceC_ok X o ho g hg h0 (ix2 r l)
  have e0 := h0 0
  have e1 := h0 1
  have hx := r.isLt
  simp only [Matrix.cons_val_zero, Matrix.cons_val_one] at e0 e1
  have q0 : Cert.Spec.grp (n := 24) ((Rect.unit (s := S768x1024) o S32x1024.size ho).emb (ix2 r l) 0) = ⟨g, hg⟩ :=
    Fin.ext (by show (o 0 + 1 * r.val) / 32 = g; omega)
  have q1 : (Rect.unit (s := S768x1024) o S32x1024.size ho).emb (ix2 r l) 1 = l := Fin.ext (by show o 1 + 1 * l.val = l.val; omega)
  refine (pay7_apply _ _ _).trans ?_
  rw [← pay5_apply, h, amax_ld X o ho g hg h0]
  unfold deqB Cert.Spec.qscale
  rw [q0, q1]
  unfold codeB
  rw [q1]

/-- One stored piece (codes times one row of scales) is the tile of `expandR` its rectangle names. -/
theorem pieceR_ok (X : S768x2048.Idx → Elt Ideal .fp8e4m3) (Sc : S24x2048.Idx → Elt Ideal .f32) (o : Fin 2 → ℕ) (ho : ∀ a, o a + S32x2048.size a ≤ S768x2048.size a)
    (o1 : Fin 2 → ℕ) (ho1 : ∀ a, o1 a + S1x2048.size a ≤ S24x2048.size a) (g : ℕ)
    (h0 : ∀ a, o a = (![32 * g, 0] : Fin 2 → ℕ) a) (h1 : ∀ a, o1 a = (![g, 0] : Fin 2 → ℕ) a)
    (c1 : S1x2048.ShapeCasts S1x2048) (b : S1x2048.Broadcasts S32x2048) (c3 : S32x2048.ShapeCasts S32x2048) (x : S32x2048.Idx) :
    (shapeCast S32x2048 (mulf (extf .bf16 (View.ld X (Rect.unit (s := S768x2048) o S32x2048.size ho)) bitsLt_fp8e4m3_bf16)
      (truncf .bf16 (broadcastTo S32x2048 (shapeCast S1x2048 (View.ld Sc (Rect.unit (s := S24x2048) o1 S1x2048.size ho1)) c1) b) bitsLt_bf16_f32) : FVec Ideal S32x2048 .bf16) c3) x
    = expandR X Sc ((Rect.unit (s := S768x2048) o S32x2048.size ho).emb x) := by
  have hx0 : (x 0).val < 32 := (x 0).isLt
  have e0 := h0 0
  have e1 := h0 1
  have e2 := h1 0
  have e3 := h1 1
  simp only [Matrix.cons_val_zero, Matrix.cons_val_one] at e0 e1 e2 e3
  rw [shapeCast_self, mulf_apply, extf_apply, truncf_apply]
  have hs : (shapeCast S1x2048 (View.ld Sc (Rect.unit (s := S24x2048) o1 S1x2048.size ho1)) c1 : FVec Ideal S1x2048 .f32) = View.ld Sc (Rect.unit (s := S24x2048) o1 S1x2048.size ho1) := shapeCast_self _ _
  refine (congrArg (fun t : FVec Ideal S1x2048 .f32 => X ((Rect.unit (s := S768x2048) o S32x2048.size ho).emb x) * broadcastTo S32x2048 t b x) hs).trans ?_
  show X ((Rect.unit (s := S768x2048) o S32x2048.size ho).emb x) * Sc ((Rect.unit (s := S24x2048) o1 S1x2048.size ho1).emb _) = _
  unfold expandR Cert.Spec.deqR Cert.Spec.grp
  refine congrArg₂ (fun a b : EReal => a * b) (congrArg X (eq_ix2 _)) (congrArg Sc ?_)
  funext b
  match b with
  | ⟨0, _⟩ =>
    apply Fin.ext
    show o1 0 + 1 * 0 = (o 0 + 1 * (x 0).val) / 32
    omega
  | ⟨1, _⟩ =>
    apply Fin.ext
    show o1 1 + 1 * (x 1).val = (o 1 + 1 * (x 1).val)
    omega

/-- The pieces of the first scratch buffer are tiles of the expanded array. -/
theorem tiles0 (c : Dev nD) (arg2 : Memref sig .tc .vmem S768x2048 .fp8e4m3) (harg2 : arg2.IsWhole) (arg3 : Memref sig .tc .vmem S24x2048 .f32) (harg3 : arg3.IsWhole) (x0 : Vec Ideal S768x2048 .fp8e4m3) (x1 : Vec Ideal S24x2048 .f32) :
    ∀ p ∈ kernelRun0_B.sl.HS0_24 (F := Ideal) c arg2 harg2 arg3 harg3 x0 x1, ∀ z : p.1.shape.Idx, p.2 z = expandR (arg2.view.read (Elt Ideal) (harg2.unread x0)) (arg3.view.read (Elt Ideal) (harg3.unread x1)) (p.1.emb z) := by
  unfold kernelRun0_B.sl.HS0_24
  simp only [List.forall_mem_cons]
  refine ⟨?_, ?_, ?_, ?_, ?_, ?_, ?_, ?_, ?_, ?_, ?_, ?_, ?_, ?_, ?_, ?_, ?_, ?_, ?_, ?_, ?_, ?_, ?_, ?_, fun p hp => absurd hp List.not_mem_nil⟩
  · intro z; exact pieceR_ok (arg2.view.read (Elt Ideal) (harg2.unread x0)) (arg3.view.read (Elt Ideal) (harg3.unread x1)) ![736, 0] (by decide) ![23, 0] (by decide) 23 (by decide) (by decide) _ _ _ z
  · intro z; exact pieceR_ok (arg2.view.read (Elt Ideal) (harg2.unread x0)) (arg3.view.read (Elt Ideal) (harg3.unread x1)) ![704, 0] (by decide) ![22, 0] (by decide) 22 (by decide) (by decide) _ _ _ z
  · intro z; exact pieceR_ok (arg2.view.read (Elt Ideal) (harg2.unread x0)) (arg3.view.read (Elt Ideal) (harg3.unread x1)) ![672, 0] (by decide) ![21, 0] (by decide) 21 (by decide) (by decide) _ _ _ z
  · intro z; exact pieceR_ok (arg2.view.read (Elt Ideal) (harg2.unread x0)) (arg3.view.read (Elt Ideal) (harg3.unread x1)) ![640, 0] (by decide) ![20, 0] (by decide) 20 (by decide) (by decide) _ _ _ z
  · intro z; exact pieceR_ok (arg2.view.read (Elt Ideal) (harg2.unread x0)) (arg3.view.read (Elt Ideal) (harg3.unread x1)) ![608, 0] (by decide) ![19, 0] (by decide) 19 (by decide) (by decide) _ _ _ z
  · intro z; exact pieceR_ok (arg2.view.read (Elt Ideal) (harg2.unread x0)) (arg3.view.read (Elt Ideal) (harg3.unread x1)) ![576, 0] (by decide) ![18, 0] (by decide) 18 (by decide) (by decide) _ _ _ z
  · intro z; exact pieceR_ok (arg2.view.read (Elt Ideal) (harg2.unread x0)) (arg3.view.read (Elt Ideal) (harg3.unread x1)) ![544, 0] (by decide) ![17, 0] (by decide) 17 (by decide) (by decide) _ _ _ z
  · intro z; exact pieceR_ok (arg2.view.read (Elt Ideal) (harg2.unread x0)) (arg3.view.read (Elt Ideal) (harg3.unread x1)) ![512, 0] (by decide) ![16, 0] (by decide) 16 (by decide) (by decide) _ _ _ z
  · intro z; exact pieceR_ok (arg2.view.read (Elt Ideal) (harg2.unread x0)) (arg3.view.read (Elt Ideal) (harg3.unread x1)) ![480, 0] (by decide) ![15, 0] (by decide) 15 (by decide) (by decide) _ _ _ z
  · intro z; exact pieceR_ok (arg2.view.read (Elt Ideal) (harg2.unread x0)) (arg3.view.read (Elt Ideal) (harg3.unread x1)) ![448, 0] (by decide) ![14, 0] (by decide) 14 (by decide) (by decide) _ _ _ z
  · intro z; exact pieceR_ok (arg2.view.read (Elt Ideal) (harg2.unread x0)) (arg3.view.read (Elt Ideal) (harg3.unread x1)) ![416, 0] (by decide) ![13, 0] (by decide) 13 (by decide) (by decide) _ _ _ z
  · intro z; exact pieceR_ok (arg2.view.read (Elt Ideal) (harg2.unread x0)) (arg3.view.read (Elt Ideal) (harg3.unread x1)) ![384, 0] (by decide) ![12, 0] (by decide) 12 (by decide) (by decide) _ _ _ z
  · intro z; exact pieceR_ok (arg2.view.read (Elt Ideal) (harg2.unread x0)) (arg3.view.read (Elt Ideal) (harg3.unread x1)) ![352, 0] (by decide) ![11, 0] (by decide) 11 (by decide) (by decide) _ _ _ z
  · intro z; exact pieceR_ok (arg2.view.read (Elt Ideal) (harg2.unread x0)) (arg3.view.read (Elt Ideal) (harg3.unread x1)) ![320, 0] (by decide) ![10, 0] (by decide) 10 (by decide) (by decide) _ _ _ z
  · intro z; exact pieceR_ok (arg2.view.read (Elt Ideal) (harg2.unread x0)) (arg3.view.read (Elt Ideal) (harg3.unread x1)) ![288, 0] (by decide) ![9, 0] (by decide) 9 (by decide) (by decide) _ _ _ z
  · intro z; exact pieceR_ok (arg2.view.read (Elt Ideal) (harg2.unread x0)) (arg3.view.read (Elt Ideal) (harg3.unread x1)) ![256, 0] (by decide) ![8, 0] (by decide) 8 (by decide) (by decide) _ _ _ z
  · intro z; exact pieceR_ok (arg2.view.read (Elt Ideal) (harg2.unread x0)) (arg3.view.read (Elt Ideal) (harg3.unread x1)) ![224, 0] (by decide) ![7, 0] (by decide) 7 (by decide) (by decide) _ _ _ z
  · intro z; exact pieceR_ok (arg2.view.read (Elt Ideal) (harg2.unread x0)) (arg3.view.read (Elt Ideal) (harg3.unread x1)) ![192, 0] (by decide) ![6, 0] (by decide) 6 (by decide) (by decide) _ _ _ z
  · intro z; exact pieceR_ok (arg2.view.read (Elt Ideal) (harg2.unread x0)) (arg3.view.read (Elt Ideal) (harg3.unread x1)) ![160, 0] (by decide) ![5, 0] (by decide) 5 (by decide) (by decide) _ _ _ z
  · intro z; exact pieceR_ok (arg2.view.read (Elt Ideal) (harg2.unread x0)) (arg3.view.read (Elt Ideal) (harg3.unread x1)) ![128, 0] (by decide) ![4, 0] (by decide) 4 (by decide) (by decide) _ _ _ z
  · intro z; exact pieceR_ok (arg2.view.read (Elt Ideal) (harg2.unread x0)) (arg3.view.read (Elt Ideal) (harg3.unread x1)) ![96, 0] (by decide) ![3, 0] (by decide) 3 (by decide) (by decide) _ _ _ z
  · intro z; exact pieceR_ok (arg2.view.read (Elt Ideal) (harg2.unread x0)) (arg3.view.read (Elt Ideal) (harg3.unread x1)) ![64, 0] (by decide) ![2, 0] (by decide) 2 (by decide) (by decide) _ _ _ z
  · intro z; exact pieceR_ok (arg2.view.read (Elt Ideal) (harg2.unread x0)) (arg3.view.read (Elt Ideal) (harg3.unread x1)) ![32, 0] (by decide) ![1, 0] (by decide) 1 (by decide) (by decide) _ _ _ z
  · intro z; exact pieceR_ok (arg2.view.read (Elt Ideal) (harg2.unread x0)) (arg3.view.read (Elt Ideal) (harg3.unread x1)) ![0, 0] (by decide) ![0, 0] (by decide) 0 (by decide) (by decide) _ _ _ z

/-- The pieces of the second scratch buffer are tiles of the block's codes times scales. -/
theorem tiles1 (c : Dev nD) (arg4 : Memref sig .tc .vmem S768x1024 .bf16) (harg4 : arg4.IsWhole) (x2 : Vec Ideal S768x1024 .bf16) :
    ∀ p ∈ kernelRun0_B.sl.HS1_24 (F := Ideal) c arg4 harg4 x2, ∀ z : p.1.shape.Idx, p.2 z = deqB (arg4.view.read (Elt Ideal) (harg4.unread x2)) (p.1.emb z) := by
  unfold kernelRun0_B.sl.HS1_24
  simp only [List.forall_mem_cons]
  refine ⟨?_, ?_, ?_, ?_, ?_, ?_, ?_, ?_, ?_, ?_, ?_, ?_, ?_, ?_, ?_, ?_, ?_, ?_, ?_, ?_, ?_, ?_, ?_, ?_, fun p hp => absurd hp List.not_mem_nil⟩
  · intro z; exact pieceD_ok (arg4.view.read (Elt Ideal) (harg4.unread x2)) ![736, 0] (by decide) 23 (by decide) (by decide) z
  · intro z; exact pieceD_ok (arg4.view.read (Elt Ideal) (harg4.unread x2)) ![704, 0] (by decide) 22 (by decide) (by decide) z
  · intro z; exact pieceD_ok (arg4.view.read (Elt Ideal) (harg4.unread x2)) ![672, 0] (by decide) 21 (by decide) (by decide) z
  · intro z; exact pieceD_ok (arg4.view.read (Elt Ideal) (harg4.unread x2)) ![640, 0] (by decide) 20 (by decide) (by decide) z
  · intro z; exact pieceD_ok (arg4.view.read (Elt Ideal) (harg4.unread x2)) ![608, 0] (by decide) 19 (by decide) (by decide) z
  · intro z; exact pieceD_ok (arg4.view.read (Elt Ideal) (harg4.unread x2)) ![576, 0] (by decide) 18 (by decide) (by decide) z
  · intro z; exact pieceD_ok (arg4.view.read (Elt Ideal) (harg4.unread x2)) ![544, 0] (by decide) 17 (by decide) (by decide) z
  · intro z; exact pieceD_ok (arg4.view.read (Elt Ideal) (harg4.unread x2)) ![512, 0] (by decide) 16 (by decide) (by decide) z
  · intro z; exact pieceD_ok (arg4.view.read (Elt Ideal) (harg4.unread x2)) ![480, 0] (by decide) 15 (by decide) (by decide) z
  · intro z; exact pieceD_ok (arg4.view.read (Elt Ideal) (harg4.unread x2)) ![448, 0] (by decide) 14 (by decide) (by decide) z
  · intro z; exact pieceD_ok (arg4.view.read (Elt Ideal) (harg4.unread x2)) ![416, 0] (by decide) 13 (by decide) (by decide) z
  · intro z; exact pieceD_ok (arg4.view.read (Elt Ideal) (harg4.unread x2)) ![384, 0] (by decide) 12 (by decide) (by decide) z
  · intro z; exact pieceD_ok (arg4.view.read (Elt Ideal) (harg4.unread x2)) ![352, 0] (by decide) 11 (by decide) (by decide) z
  · intro z; exact pieceD_ok (arg4.view.read (Elt Ideal) (harg4.unread x2)) ![320, 0] (by decide) 10 (by decide) (by decide) z
  · intro z; exact pieceD_ok (arg4.view.read (Elt Ideal) (harg4.unread x2)) ![288, 0] (by decide) 9 (by decide) (by decide) z
  · intro z; exact pieceD_ok (arg4.view.read (Elt Ideal) (harg4.unread x2)) ![256, 0] (by decide) 8 (by decide) (by decide) z
  · intro z; exact pieceD_ok (arg4.view.read (Elt Ideal) (harg4.unread x2)) ![224, 0] (by decide) 7 (by decide) (by decide) z
  · intro z; exact pieceD_ok (arg4.view.read (Elt Ideal) (harg4.unread x2)) ![192, 0] (by decide) 6 (by decide) (by decide) z
  · intro z; exact pieceD_ok (arg4.view.read (Elt Ideal) (harg4.unread x2)) ![160, 0] (by decide) 5 (by decide) (by decide) z
  · intro z; exact pieceD_ok (arg4.view.read (Elt Ideal) (harg4.unread x2)) ![128, 0] (by decide) 4 (by decide) (by decide) z
  · intro z; exact pieceD_ok (arg4.view.read (Elt Ideal) (harg4.unread x2)) ![96, 0] (by decide) 3 (by decide) (by decide) z
  · intro z; exact pieceD_ok (arg4.view.read (Elt Ideal) (harg4.unread x2)) ![64, 0] (by decide) 2 (by decide) (by decide) z
  · intro z; exact pieceD_ok (arg4.view.read (Elt Ideal) (harg4.unread x2)) ![32, 0] (by decide) 1 (by decide) (by decide) z
  · intro z; exact pieceD_ok (arg4.view.read (Elt Ideal) (harg4.unread x2)) ![0, 0] (by decide) 0 (by decide) (by decide) z

end Cert.DwOutIdeal.Gen

end
-- ==== Proof.DwOut.Out.lean ====
/-
What one grid point of the output-side weight-gradient kernel stores: the product it adds to the weight-gradient block, the block's
codes and the block's scales, over the extended reals.
-/
module

public import proofs.«01_k».proof.Proof.DwOut.Scratch
public import Idealize.ShloMosaic.Lib.Pipeline.ValueKit.Geometry
public import Idealize.ShloMosaic.Lib.Pipeline.ValueKit.Acc
public import Idealize.ShloMosaic.Lib.Pointwise

@[expose] public section

set_option maxRecDepth 16384
set_option maxHeartbeats 4000000

noncomputable section

namespace Cert.DwOutIdeal.Gen

open Idealize.ShloMosaic Idealize.ShloMosaic.TcCoe Idealize.ShloMosaic.Tactic
open Idealize.SL Idealize.SL.RA Idealize.SL.BI

/-- Offsets that are zero on both axes. -/
theorem zero2 : (![0, 0] : Fin 2 → ℕ) = fun _ => 0 := by decide

/-- The product one grid point adds: rows of the first operand's transpose against the second. -/
def prodG (P : S768x2048.Idx → EReal) (Q : S768x1024.Idx → EReal) : S2048x1024.Idx → EReal :=
  fun y => ∑ k : Fin 768, P (ix2 k (y 0)) * Q (ix2 k (y 1))

/-- The accumulation over one block of tokens, at an index. -/
theorem pay1_apply (a : Vec Ideal S2048x1024 .f32) (P : Vec Ideal S768x2048 .bf16) (Q : Vec Ideal S768x1024 .bf16) (r : Fin 2048) (l : Fin 1024) :
    k0_pay1 (F := Ideal) a P Q (ix2 r l) = a (ix2 r l) + ∑ k : Fin 768, P (ix2 k r) * Q (ix2 k l) := by
  pointwise [k0_pay1]

/-- The accumulator as loaded. -/
theorem pay179_eq (a : Vec Ideal S2048x1024 .f32) : k0_pay179 (F := Ideal) a = a := by
  funext y
  pointwise [k0_pay179]

/-- A whole-buffer load of stores that cover the buffer with tiles of `G` is `G`. -/
theorem readCov_tiles {κ : Kind} {sp : Space} {S : Shape} {e : EltTy} (v : View sig κ sp S e) (L : List (View.Piece (Elt Ideal) S e)) (G : S.Idx → Elt Ideal e)
    (hG : ∀ p ∈ L, ∀ z : p.1.shape.Idx, p.2 z = G (p.1.emb z)) (hc : ∀ y, ∃ pc ∈ L, y ∈ pc.1.set)
    (off : Fin S.rank → ℕ) (inb : ∀ a, off a + S.size a ≤ S.size a) (h : off = fun _ => 0) :
    v.readCov L (Rect.unit (s := S) off S.size inb).toLoadRect = G := by
  refine (View.readCov_eq_canon_ld v L (Rect.unit (s := S) off S.size inb) hc).trans ?_
  rw [View.ld_unit_zero h]
  funext y
  exact View.canon_apply_of_pieces _ _ hG y (hc y)

/-- The first scratch buffer as the product reads it. -/
theorem scr0_B (c : Dev nD) (arg2 : Memref sig .tc .vmem S768x2048 .fp8e4m3) (harg2 : arg2.IsWhole) (arg3 : Memref sig .tc .vmem S24x2048 .f32) (harg3 : arg3.IsWhole) (arg8 : Memref sig .tc .vmem S768x2048 .bf16) (x0 : Vec Ideal S768x2048 .fp8e4m3) (x1 : Vec Ideal S24x2048 .f32) :
    kernelRun0_B.sl.v1253 (F := Ideal) c arg2 harg2 arg3 harg3 arg8 x0 x1 = expandR x0 x1 := by
  have hc : ∀ y, ∃ pc ∈ (kernelRun0_B.sl.HS0_24 (F := Ideal) c arg2 harg2 arg3 harg3 x0 x1), y ∈ pc.1.set := fun y =>
    View.cover_of_tiledL (kernelRun0_B.sl.HS0_24 (F := Ideal) c arg2 harg2 arg3 harg3 x0 x1) S32x2048.size (by sl_kernel_rfl) y
  refine (readCov_tiles _ (kernelRun0_B.sl.HS0_24 (F := Ideal) c arg2 harg2 arg3 harg3 x0 x1) _ (tiles0 c arg2 harg2 arg3 harg3 x0 x1) hc _ _ zero2).trans ?_
  rw [harg2.read_unread, harg3.read_unread]

/-- The second scratch buffer as the product reads it. -/
theorem scr1_B (c : Dev nD) (arg4 : Memref sig .tc .vmem S768x1024 .bf16) (harg4 : arg4.IsWhole) (arg9 : Memref sig .tc .vmem S768x1024 .bf16) (x2 : Vec Ideal S768x1024 .bf16) :
    kernelRun0_B.sl.v1254 (F := Ideal) c arg4 harg4 arg9 x2 = deqB x2 := by
  have hc : ∀ y, ∃ pc ∈ (kernelRun0_B.sl.HS1_24 (F := Ideal) c arg4 harg4 x2), y ∈ pc.1.set := fun y =>
    View.cover_of_tiledL (kernelRun0_B.sl.HS1_24 (F := Ideal) c arg4 harg4 x2) S32x1024.size (by sl_kernel_rfl) y
  refine (readCov_tiles _ (kernelRun0_B.sl.HS1_24 (F := Ideal) c arg4 harg4 x2) _ (tiles1 c arg4 harg4 x2) hc _ _ zero2).trans ?_
  rw [harg4.read_unread]

/-- The first scratch buffer as the product reads it at a first block of tokens. -/
theorem scr0_A (c : Dev nD) (arg2 : Memref sig .tc .vmem S768x2048 .fp8e4m3) (harg2 : arg2.IsWhole) (arg3 : Memref sig .tc .vmem S24x2048 .f32) (harg3 : arg3.IsWhole) (arg8 : Memref sig .tc .vmem S768x2048 .bf16) (x0 : Vec Ideal S768x2048 .fp8e4m3) (x1 : Vec Ideal S24x2048 .f32) :
    kernelRun0_A.sl.v1253 (F := Ideal) c arg2 harg2 arg3 harg3 arg8 x0 x1 = expandR x0 x1 := by
  have hc : ∀ y, ∃ pc ∈ (kernelRun0_A.sl.HS0_24 (F := Ideal) c arg2 harg2 arg3 harg3 x0 x1), y ∈ pc.1.set := fun y =>
    View.cover_of_tiledL (kernelRun0_A.sl.HS0_24 (F := Ideal) c arg2 harg2 arg3 harg3 x0 x1) S32x2048.size (by sl_kernel_rfl) y
  refine (readCov_tiles _ (kernelRun0_A.sl.HS0_24 (F := Ideal) c arg2 harg2 arg3 harg3 x0 x1) _ (tiles0 c arg2 harg2 arg3 harg3 x0 x1) hc _ _ zero2).trans ?_
  rw [harg2.read_unread, harg3.read_unread]

/-- The second scratch buffer as the product reads it at a first block of tokens. -/
theorem scr1_A (c : Dev nD) (arg4 : Memref sig .tc .vmem S768x1024 .bf16) (harg4 : arg4.IsWhole) (arg9 : Memref sig .tc .vmem S768x1024 .bf16) (x2 : Vec Ideal S768x1024 .bf16) :
    kernelRun0_A.sl.v1254 (F := Ideal) c arg4 harg4 arg9 x2 = deqB x2 := by
  have hc : ∀ y, ∃ pc ∈ (kernelRun0_A.sl.HS1_24 (F := Ideal) c arg4 harg4 x2), y ∈ pc.1.set := fun y =>
    View.cover_of_tiledL (kernelRun0_A.sl.HS1_24 (F := Ideal) c arg4 harg4 x2) S32x1024.size (by sl_kernel_rfl) y
  refine (readCov_tiles _ (kernelRun0_A.sl.HS1_24 (F := Ideal) c arg4 harg4 x2) _ (tiles1 c arg4 harg4 x2) hc _ _ zero2).trans ?_
  rw [harg4.read_unread]

/-- The weight-gradient block after a later block of tokens: what it held plus the block's product. -/
theorem outB3 (c : Dev nD) (i : grid0.Coords) (arg2 : Memref sig .tc .vmem S768x2048 .fp8e4m3) (harg2 : arg2.IsWhole) (arg3 : Memref sig .tc .vmem S24x2048 .f32) (harg3 : arg3.IsWhole) (arg4 : Memref sig .tc .vmem S768x1024 .bf16) (harg4 : arg4.IsWhole) (arg5 : Memref sig .tc .vmem S2048x1024 .f32) (harg5 : arg5.IsWhole) (arg6 : Memref sig .tc .vmem S768x1024 .fp8e5m2) (harg6 : arg6.IsWhole) (arg7 : Memref sig .tc .vmem S24x1024 .f32) (harg7 : arg7.IsWhole) (arg8 : Memref sig .tc .vmem S768x2048 .bf16) (harg8 : arg8.IsWhole) (arg9 : Memref sig .tc .vmem S768x1024 .bf16) (harg9 : arg9.IsWhole) (hc0 : ¬cond0_0 i)     (x0 : Vec Ideal S768x2048 .fp8e4m3) (x1 : Vec Ideal S24x2048 .f32) (x2 : Vec Ideal S768x1024 .bf16) (xo3 : Vec Ideal S2048x1024 .f32) :
    out0_B_3 (F := Ideal) c i arg2 harg2 arg3 harg3 arg4 harg4 arg5 harg5 arg6 harg6 arg7 harg7 arg8 harg8 arg9 harg9 hc0 x0 x1 x2 xo3 = fun y => xo3 y + prodG (expandR x0 x1) (deqB x2) y := by
  unfold out0_B_3
  rw [View.read_writes_eq_canon _ _ _ (cover0_B_3 (F := Ideal) c i arg2 harg2 arg3 harg3 arg4 harg4 arg5 harg5 arg6 harg6 arg7 harg7 arg8 harg8 arg9 harg9 hc0 x0 x1 x2 xo3)]
  unfold kernelRun0_B
  dsimp only
  rw [View.canon_unit_zero zero2 _ _, scr0_B, scr1_B]
  have h := (View.readAt_eq_ld arg5.view (harg5.unread xo3) (Rect.unit (s := S2048x1024) ![0, 0] S2048x1024.size inb_S2048x1024_S2048x1024_0_0)).trans (View.ld_unit_zero zero2 _ _)
  funext y
  obtain ⟨r, l, rfl⟩ : ∃ (r : Fin 2048) (l : Fin 1024), y = ix2 r l := ⟨y 0, y 1, eq_ix2 y⟩
  refine (pay1_apply _ _ _ r l).trans ?_
  refine congrArg (fun t : EReal => t + _) ?_
  unfold kernelRun0_B.sl.r_61
  rw [pay179_eq]
  exact congrFun (h.trans (harg5.read_unread _)) _

/-- The weight-gradient block after a first block of tokens: the block's product. -/
theorem outA3 (c : Dev nD) (i : grid0.Coords) (arg2 : Memref sig .tc .vmem S768x2048 .fp8e4m3) (harg2 : arg2.IsWhole) (arg3 : Memref sig .tc .vmem S24x2048 .f32) (harg3 : arg3.IsWhole) (arg4 : Memref sig .tc .vmem S768x1024 .bf16) (harg4 : arg4.IsWhole) (arg5 : Memref sig .tc .vmem S2048x1024 .f32) (harg5 : arg5.IsWhole) (arg6 : Memref sig .tc .vmem S768x1024 .fp8e5m2) (harg6 : arg6.IsWhole) (arg7 : Memref sig .tc .vmem S24x1024 .f32) (harg7 : arg7.IsWhole) (arg8 : Memref sig .tc .vmem S768x2048 .bf16) (harg8 : arg8.IsWhole) (arg9 : Memref sig .tc .vmem S768x1024 .bf16) (harg9 : arg9.IsWhole) (hc0 : cond0_0 i)     (x0 : Vec Ideal S768x2048 .fp8e4m3) (x1 : Vec Ideal S24x2048 .f32) (x2 : Vec Ideal S768x1024 .bf16) :
    out0_A_3 (F := Ideal) c i arg2 harg2 arg3 harg3 arg4 harg4 arg5 harg5 arg6 harg6 arg7 harg7 arg8 harg8 arg9 harg9 hc0 x0 x1 x2 = fun y => 0 + prodG (expandR x0 x1) (deqB x2) y := by
  unfold out0_A_3
  rw [View.read_writes_eq_canon _ _ _ (cover0_A_3 (F := Ideal) c i arg2 harg2 arg3 harg3 arg4 harg4 arg5 harg5 arg6 harg6 arg7 harg7 arg8 harg8 arg9 harg9 hc0 x0 x1 x2)]
  unfold kernelRun0_A
  dsimp only
  rw [View.canon_cons_unit_zero zero2, scr0_A, scr1_A]
  funext y
  obtain ⟨r, l, rfl⟩ : ∃ (r : Fin 2048) (l : Fin 1024), y = ix2 r l := ⟨y 0, y 1, eq_ix2 y⟩
  refine (pay1_apply _ _ _ r l).trans ?_
  refine congrArg (fun t : EReal => t + _) ?_
  unfold kernelRun0_A.sl.r_61
  rw [pay179_eq]
  refine (congrFun (View.readCov_unit_lit' (Val := Elt Ideal) (S := S2048x1024) (e := .f32) (off := ![0, 0]) arg5.view inb_S2048x1024_S2048x1024_0_0 (k0_pay178 (F := Ideal)) (by decide)) _).trans ?_
  pointwise [k0_pay178]

/-- The stored codes are tiles of the block's codes. -/
theorem piecesB4 (c : Dev nD) (i : grid0.Coords) (arg2 : Memref sig .tc .vmem S768x2048 .fp8e4m3) (harg2 : arg2.IsWhole) (arg3 : Memref sig .tc .vmem S24x2048 .f32) (harg3 : arg3.IsWhole) (arg4 : Memref sig .tc .vmem S768x1024 .bf16) (harg4 : arg4.IsWhole) (arg5 : Memref sig .tc .vmem S2048x1024 .f32) (harg5 : arg5.IsWhole) (arg6 : Memref sig .tc .vmem S768x1024 .fp8e5m2) (harg6 : arg6.IsWhole) (arg7 : Memref sig .tc .vmem S24x1024 .f32) (harg7 : arg7.IsWhole) (arg8 : Memref sig .tc .vmem S768x2048 .bf16) (harg8 : arg8.IsWhole) (arg9 : Memref sig .tc .vmem S768x1024 .bf16) (harg9 : arg9.IsWhole) (hc0 : ¬cond0_0 i)     (x0 : Vec Ideal S768x2048 .fp8e4m3) (x1 : Vec Ideal S24x2048 .f32) (x2 : Vec Ideal S768x1024 .bf16) (xo3 : Vec Ideal S2048x1024 .f32) :
    ∀ p ∈ (kernelRun0_B (F := Ideal) c i arg2 harg2 arg3 harg3 arg4 harg4 arg5 harg5 arg6 harg6 arg7 harg7 arg8 harg8 arg9 harg9 hc0 x0 x1 x2 xo3).2.1, ∀ z : p.1.shape.Idx, p.2 z = codeB (arg4.view.read (Elt Ideal) (harg4.unread x2)) (p.1.emb z) := by
  unfold kernelRun0_B
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, fun p hp => absurd hp List.not_mem_nil⟩
  · intro z; exact pieceC_ok (arg4.view.read (Elt Ideal) (harg4.unread x2)) ![736, 0] (by decide) 23 (by decide) (by decide) z
  · intro z; exact pieceC_ok (arg4.view.read (Elt Ideal) (harg4.unread x2)) ![704, 0] (by decide) 22 (by decide) (by decide) z
  · intro z; exact pieceC_ok (arg4.view.read (Elt Ideal) (harg4.unread x2)) ![672, 0] (by decide) 21 (by decide) (by decide) z
  · intro z; exact pieceC_ok (arg4.view.read (Elt Ideal) (harg4.unread x2)) ![640, 0] (by decide) 20 (by decide) (by decide) z
  · intro z; exact pieceC_ok (arg4.view.read (Elt Ideal) (harg4.unread x2)) ![608, 0] (by decide) 19 (by decide) (by decide) z
  · intro z; exact pieceC_ok (arg4.view.read (Elt Ideal) (harg4.unread x2)) ![576, 0] (by decide) 18 (by decide) (by decide) z
  · intro z; exact pieceC_ok (arg4.view.read (Elt Ideal) (harg4.unread x2)) ![544, 0] (by decide) 17 (by decide) (by decide) z
  · intro z; exact pieceC_ok (arg4.view.read (Elt Ideal) (harg4.unread x2)) ![512, 0] (by decide) 16 (by decide) (by decide) z
  · intro z; exact pieceC_ok (arg4.view.read (Elt Ideal) (harg4.unread x2)) ![480, 0] (by decide) 15 (by decide) (by decide) z
  · intro z; exact pieceC_ok (arg4.view.read (Elt Ideal) (harg4.unread x2)) ![448, 0] (by decide) 14 (by decide) (by decide) z
  · intro z; exact pieceC_ok (arg4.view.read (Elt Ideal) (harg4.unread x2)) ![416, 0] (by decide) 13 (by decide) (by decide) z
  · intro z; exact pieceC_ok (arg4.view.read (Elt Ideal) (harg4.unread x2)) ![384, 0] (by decide) 12 (by decide) (by decide) z
  · intro z; exact pieceC_ok (arg4.view.read (Elt Ideal) (harg4.unread x2)) ![352, 0] (by decide) 11 (by decide) (by decide) z
  · intro z; exact pieceC_ok (arg4.view.read (Elt Ideal) (harg4.unread x2)) ![320, 0] (by decide) 10 (by decide) (by decide) z
  · intro z; exact pieceC_ok (arg4.view.read (Elt Ideal) (harg4.unread x2)) ![288, 0] (by decide) 9 (by decide) (by decide) z
  · intro z; exact pieceC_ok (arg4.view.read (Elt Ideal) (harg4.unread x2)) ![256, 0] (by decide) 8 (by decide) (by decide) z
  · intro z; exact pieceC_ok (arg4.view.read (Elt Ideal) (harg4.unread x2)) ![224, 0] (by decide) 7 (by decide) (by decide) z
  · intro z; exact pieceC_ok (arg4.view.read (Elt Ideal) (harg4.unread x2)) ![192, 0] (by decide) 6 (by decide) (by decide) z
  · intro z; exact pieceC_ok (arg4.view.read (Elt Ideal) (harg4.unread x2)) ![160, 0] (by decide) 5 (by decide) (by decide) z
  · intro z; exact pieceC_ok (arg4.view.read (Elt Ideal) (harg4.unread x2)) ![128, 0] (by decide) 4 (by decide) (by decide) z
  · intro z; exact pieceC_ok (arg4.view.read (Elt Ideal) (harg4.unread x2)) ![96, 0] (by decide) 3 (by decide) (by decide) z
  · intro z; exact pieceC_ok (arg4.view.read (Elt Ideal) (harg4.unread x2)) ![64, 0] (by decide) 2 (by decide) (by decide) z
  · intro z; exact pieceC_ok (arg4.view.read (Elt Ideal) (harg4.unread x2)) ![32, 0] (by decide) 1 (by decide) (by decide) z
  · intro z; exact pieceC_ok (arg4.view.read (Elt Ideal) (harg4.unread x2)) ![0, 0] (by decide) 0 (by decide) (by decide) z

/-- The block of codes after a grid point. -/
theorem outB4 (c : Dev nD) (i : grid0.Coords) (arg2 : Memref sig .tc .vmem S768x2048 .fp8e4m3) (harg2 : arg2.IsWhole) (arg3 : Memref sig .tc .vmem S24x2048 .f32) (harg3 : arg3.IsWhole) (arg4 : Memref sig .tc .vmem S768x1024 .bf16) (harg4 : arg4.IsWhole) (arg5 : Memref sig .tc .vmem S2048x1024 .f32) (harg5 : arg5.IsWhole) (arg6 : Memref sig .tc .vmem S768x1024 .fp8e5m2) (harg6 : arg6.IsWhole) (arg7 : Memref sig .tc .vmem S24x1024 .f32) (harg7 : arg7.IsWhole) (arg8 : Memref sig .tc .vmem S768x2048 .bf16) (harg8 : arg8.IsWhole) (arg9 : Memref sig .tc .vmem S768x1024 .bf16) (harg9 : arg9.IsWhole) (hc0 : ¬cond0_0 i)     (x0 : Vec Ideal S768x2048 .fp8e4m3) (x1 : Vec Ideal S24x2048 .f32) (x2 : Vec Ideal S768x1024 .bf16) (xo3 : Vec Ideal S2048x1024 .f32) :
    out0_B_4 (F := Ideal) c i arg2 harg2 arg3 harg3 arg4 harg4 arg5 harg5 arg6 harg6 arg7 harg7 arg8 harg8 arg9 harg9 hc0 x0 x1 x2 xo3 = codeB x2 := by
  unfold out0_B_4
  rw [View.read_writes_eq_canon _ _ _ (cover0_B_4 (F := Ideal) c i arg2 harg2 arg3 harg3 arg4 harg4 arg5 harg5 arg6 harg6 arg7 harg7 arg8 harg8 arg9 harg9 hc0 x0 x1 x2 xo3)]
  funext y
  refine (View.canon_apply_of_pieces _ _ (piecesB4 c i arg2 harg2 arg3 harg3 arg4 harg4 arg5 harg5 arg6 harg6 arg7 harg7 arg8 harg8 arg9 harg9 hc0 x0 x1 x2 xo3) y (cover0_B_4 (F := Ideal) c i arg2 harg2 arg3 harg3 arg4 harg4 arg5 harg5 arg6 harg6 arg7 harg7 arg8 harg8 arg9 harg9 hc0 x0 x1 x2 xo3 y)).trans ?_
  rw [harg4.read_unread]

/-- The stored scales are tiles of the block's scales. -/
theorem piecesB5 (c : Dev nD) (i : grid0.Coords) (arg2 : Memref sig .tc .vmem S768x2048 .fp8e4m3) (harg2 : arg2.IsWhole) (arg3 : Memref sig .tc .vmem S24x2048 .f32) (harg3 : arg3.IsWhole) (arg4 : Memref sig .tc .vmem S768x1024 .bf16) (harg4 : arg4.IsWhole) (arg5 : Memref sig .tc .vmem S2048x1024 .f32) (harg5 : arg5.IsWhole) (arg6 : Memref sig .tc .vmem S768x1024 .fp8e5m2) (harg6 : arg6.IsWhole) (arg7 : Memref sig .tc .vmem S24x1024 .f32) (harg7 : arg7.IsWhole) (arg8 : Memref sig .tc .vmem S768x2048 .bf16) (harg8 : arg8.IsWhole) (arg9 : Memref sig .tc .vmem S768x1024 .bf16) (harg9 : arg9.IsWhole) (hc0 : ¬cond0_0 i)     (x0 : Vec Ideal S768x2048 .fp8e4m3) (x1 : Vec Ideal S24x2048 .f32) (x2 : Vec Ideal S768x1024 .bf16) (xo3 : Vec Ideal S2048x1024 .f32) :
    ∀ p ∈ (kernelRun0_B (F := Ideal) c i arg2 harg2 arg3 harg3 arg4 harg4 arg5 harg5 arg6 harg6 arg7 harg7 arg8 harg8 arg9 harg9 hc0 x0 x1 x2 xo3).2.2.1, ∀ z : p.1.shape.Idx, p.2 z = scaleB (arg4.view.read (Elt Ideal) (harg4.unread x2)) (p.1.emb z) := by
  unfold kernelRun0_B
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, fun p hp => absurd hp List.not_mem_nil⟩
  · intro z; exact pieceS_ok (arg4.view.read (Elt Ideal) (harg4.unread x2)) ![736, 0] (by decide) 23 (by decide) ![23, 0] (by decide) (by decide) (by decide) z
  · intro z; exact pieceS_ok (arg4.view.read (Elt Ideal) (harg4.unread x2)) ![704, 0] (by decide) 22 (by decide) ![22, 0] (by decide) (by decide) (by decide) z
  · intro z; exact pieceS_ok (arg4.view.read (Elt Ideal) (harg4.unread x2)) ![672, 0] (by decide) 21 (by decide) ![21, 0] (by decide) (by decide) (by decide) z
  · intro z; exact pieceS_ok (arg4.view.read (Elt Ideal) (harg4.unread x2)) ![640, 0] (by decide) 20 (by decide) ![20, 0] (by decide) (by decide) (by decide) z
  · intro z; exact pieceS_ok (arg4.view.read (Elt Ideal) (harg4.unread x2)) ![608, 0] (by decide) 19 (by decide) ![19, 0] (by decide) (by decide) (by decide) z
  · intro z; exact pieceS_ok (arg4.view.read (Elt Ideal) (harg4.unread x2)) ![576, 0] (by decide) 18 (by decide) ![18, 0] (by decide) (by decide) (by decide) z
  · intro z; exact pieceS_ok (arg4.view.read (Elt Ideal) (harg4.unread x2)) ![544, 0] (by decide) 17 (by decide) ![17, 0] (by decide) (by decide) (by decide) z
  · intro z; exact pieceS_ok (arg4.view.read (Elt Ideal) (harg4.unread x2)) ![512, 0] (by decide) 16 (by decide) ![16, 0] (by decide) (by decide) (by decide) z
  · intro z; exact pieceS_ok (arg4.view.read (Elt Ideal) (harg4.unread x2)) ![480, 0] (by decide) 15 (by decide) ![15, 0] (by decide) (by decide) (by decide) z
  · intro z; exact pieceS_ok (arg4.view.read (Elt Ideal) (harg4.unread x2)) ![448, 0] (by decide) 14 (by decide) ![14, 0] (by decide) (by decide) (by decide) z
  · intro z; exact pieceS_ok (arg4.view.read (Elt Ideal) (harg4.unread x2)) ![416, 0] (by decide) 13 (by decide) ![13, 0] (by decide) (by decide) (by decide) z
  · intro z; exact pieceS_ok (arg4.view.read (Elt Ideal) (harg4.unread x2)) ![384, 0] (by decide) 12 (by decide) ![12, 0] (by decide) (by decide) (by decide) z
  · intro z; exact pieceS_ok (arg4.view.read (Elt Ideal) (harg4.unread x2)) ![352, 0] (by decide) 11 (by decide) ![11, 0] (by decide) (by decide) (by decide) z
  · intro z; exact pieceS_ok (arg4.view.read (Elt Ideal) (harg4.unread x2)) ![320, 0] (by decide) 10 (by decide) ![10, 0] (by decide) (by decide) (by decide) z
  · intro z; exact pieceS_ok (arg4.view.read (Elt Ideal) (harg4.unread x2)) ![288, 0] (by decide) 9 (by decide) ![9, 0] (by decide) (by decide) (by decide) z
  · intro z; exact pieceS_ok (arg4.view.read (Elt Ideal) (harg4.unread x2)) ![256, 0] (by decide) 8 (by decide) ![8, 0] (by decide) (by decide) (by decide) z
  · intro z; exact pieceS_ok (arg4.view.read (Elt Ideal) (harg4.unread x2)) ![224, 0] (by decide) 7 (by decide) ![7, 0] (by decide) (by decide) (by decide) z
  · intro z; exact pieceS_ok (arg4.view.read (Elt Ideal) (harg4.unread x2)) ![192, 0] (by decide) 6 (by decide) ![6, 0] (by decide) (by decide) (by decide) z
  · intro z; exact pieceS_ok (arg4.view.read (Elt Ideal) (harg4.unread x2)) ![160, 0] (by decide) 5 (by decide) ![5, 0] (by decide) (by decide) (by decide) z
  · intro z; exact pieceS_ok (arg4.view.read (Elt Ideal) (harg4.unread x2)) ![128, 0] (by decide) 4 (by decide) ![4, 0] (by decide) (by decide) (by decide) z
  · intro z; exact pieceS_ok (arg4.view.read (Elt Ideal) (harg4.unread x2)) ![96, 0] (by decide) 3 (by decide) ![3, 0] (by decide) (by decide) (by decide) z
  · intro z; exact pieceS_ok (arg4.view.read (Elt Ideal) (harg4.unread x2)) ![64, 0] (by decide) 2 (by decide) ![2, 0] (by decide) (by decide) (by decide) z
  · intro z; exact pieceS_ok (arg4.view.read (Elt Ideal) (harg4.unread x2)) ![32, 0] (by decide) 1 (by decide) ![1, 0] (by decide) (by decide) (by decide) z
  · intro z; exact pieceS_ok (arg4.view.read (Elt Ideal) (harg4.unread x2)) ![0, 0] (by decide) 0 (by decide) ![0, 0] (by decide) (by decide) (by decide) z

/-- The block of scales after a grid point. -/
theorem outB5 (c : Dev nD) (i : grid0.Coords) (arg2 : Memref sig .tc .vmem S768x2048 .fp8e4m3) (harg2 : arg2.IsWhole) (arg3 : Memref sig .tc .vmem S24x2048 .f32) (harg3 : arg3.IsWhole) (arg4 : Memref sig .tc .vmem S768x1024 .bf16) (harg4 : arg4.IsWhole) (arg5 : Memref sig .tc .vmem S2048x1024 .f32) (harg5 : arg5.IsWhole) (arg6 : Memref sig .tc .vmem S768x1024 .fp8e5m2) (harg6 : arg6.IsWhole) (arg7 : Memref sig .tc .vmem S24x1024 .f32) (harg7 : arg7.IsWhole) (arg8 : Memref sig .tc .vmem S768x2048 .bf16) (harg8 : arg8.IsWhole) (arg9 : Memref sig .tc .vmem S768x1024 .bf16) (harg9 : arg9.IsWhole) (hc0 : ¬cond0_0 i)     (x0 : Vec Ideal S768x2048 .fp8e4m3) (x1 : Vec Ideal S24x2048 .f32) (x2 : Vec Ideal S768x1024 .bf16) (xo3 : Vec Ideal S2048x1024 .f32) :
    out0_B_5 (F := Ideal) c i arg2 harg2 arg3 harg3 arg4 harg4 arg5 harg5 arg6 harg6 arg7 harg7 arg8 harg8 arg9 harg9 hc0 x0 x1 x2 xo3 = scaleB x2 := by
  unfold out0_B_5
  rw [View.read_writes_eq_canon _ _ _ (cover0_B_5 (F := Ideal) c i arg2 harg2 arg3 harg3 arg4 harg4 arg5 harg5 arg6 harg6 arg7 harg7 arg8 harg8 arg9 harg9 hc0 x0 x1 x2 xo3)]
  funext y
  refine (View.canon_apply_of_pieces _ _ (piecesB5 c i arg2 harg2 arg3 harg3 arg4 harg4 arg5 harg5 arg6 harg6 arg7 harg7 arg8 harg8 arg9 harg9 hc0 x0 x1 x2 xo3) y (cover0_B_5 (F := Ideal) c i arg2 harg2 arg3 harg3 arg4 harg4 arg5 harg5 arg6 harg6 arg7 harg7 arg8 harg8 arg9 harg9 hc0 x0 x1 x2 xo3 y)).trans ?_
  rw [harg4.read_unread]

/-- The stored codes are tiles of the block's codes (at a first block of tokens). -/
theorem piecesA4 (c : Dev nD) (i : grid0.Coords) (arg2 : Memref sig .tc .vmem S768x2048 .fp8e4m3) (harg2 : arg2.IsWhole) (arg3 : Memref sig .tc .vmem S24x2048 .f32) (harg3 : arg3.IsWhole) (arg4 : Memref sig .tc .vmem S768x1024 .bf16) (harg4 : arg4.IsWhole) (arg5 : Memref sig .tc .vmem S2048x1024 .f32) (harg5 : arg5.IsWhole) (arg6 : Memref sig .tc .vmem S768x1024 .fp8e5m2) (harg6 : arg6.IsWhole) (arg7 : Memref sig .tc .vmem S24x1024 .f32) (harg7 : arg7.IsWhole) (arg8 : Memref sig .tc .vmem S768x2048 .bf16) (harg8 : arg8.IsWhole) (arg9 : Memref sig .tc .vmem S768x1024 .bf16) (harg9 : arg9.IsWhole) (hc0 : cond0_0 i)     (x0 : Vec Ideal S768x2048 .fp8e4m3) (x1 : Vec Ideal S24x2048 .f32) (x2 : Vec Ideal S768x1024 .bf16) :
    ∀ p ∈ (kernelRun0_A (F := Ideal) c i arg2 harg2 arg3 harg3 arg4 harg4 arg5 harg5 arg6 harg6 arg7 harg7 arg8 harg8 arg9 harg9 hc0 x0 x1 x2).2.1, ∀ z : p.1.shape.Idx, p.2 z = codeB (arg4.view.read (Elt Ideal) (harg4.unread x2)) (p.1.emb z) := by
  unfold kernelRun0_A
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, fun p hp => absurd hp List.not_mem_nil⟩
  · intro z; exact pieceC_ok (arg4.view.read (Elt Ideal) (harg4.unread x2)) ![736, 0] (by decide) 23 (by decide) (by decide) z
  · intro z; exact pieceC_ok (arg4.view.read (Elt Ideal) (harg4.unread x2)) ![704, 0] (by decide) 22 (by decide) (by decide) z
  · intro z; exact pieceC_ok (arg4.view.read (Elt Ideal) (harg4.unread x2)) ![672, 0] (by decide) 21 (by decide) (by decide) z
  · intro z; exact pieceC_ok (arg4.view.read (Elt Ideal) (harg4.unread x2)) ![640, 0] (by decide) 20 (by decide) (by decide) z
  · intro z; exact pieceC_ok (arg4.view.read (Elt Ideal) (harg4.unread x2)) ![608, 0] (by decide) 19 (by decide) (by decide) z
  · intro z; exact pieceC_ok (arg4.view.read (Elt Ideal) (harg4.unread x2)) ![576, 0] (by decide) 18 (by decide) (by decide) z
  · intro z; exact pieceC_ok (arg4.view.read (Elt Ideal) (harg4.unread x2)) ![544, 0] (by decide) 17 (by decide) (by decide) z
  · intro z; exact pieceC_ok (arg4.view.read (Elt Ideal) (harg4.unread x2)) ![512, 0] (by decide) 16 (by decide) (by decide) z
  · intro z; exact pieceC_ok (arg4.view.read (Elt Ideal) (harg4.unread x2)) ![480, 0] (by decide) 15 (by decide) (by decide) z
  · intro z; exact pieceC_ok (arg4.view.read (Elt Ideal) (harg4.unread x2)) ![448, 0] (by decide) 14 (by decide) (by decide) z
  · intro z; exact pieceC_ok (arg4.view.read (Elt Ideal) (harg4.unread x2)) ![416, 0] (by decide) 13 (by decide) (by decide) z
  · intro z; exact pieceC_ok (arg4.view.read (Elt Ideal) (harg4.unread x2)) ![384, 0] (by decide) 12 (by decide) (by decide) z
  · intro z; exact pieceC_ok (arg4.view.read (Elt Ideal) (harg4.unread x2)) ![352, 0] (by decide) 11 (by decide) (by decide) z
  · intro z; exact pieceC_ok (arg4.view.read (Elt Ideal) (harg4.unread x2)) ![320, 0] (by decide) 10 (by decide) (by decide) z
  · intro z; exact pieceC_ok (arg4.view.read (Elt Ideal) (harg4.unread x2)) ![288, 0] (by decide) 9 (by decide) (by decide) z
  · intro z; exact pieceC_ok (arg4.view.read (Elt Ideal) (harg4.unread x2)) ![256, 0] (by decide) 8 (by decide) (by decide) z
  · intro z; exact pieceC_ok (arg4.view.read (Elt Ideal) (harg4.unread x2)) ![224, 0] (by decide) 7 (by decide) (by decide) z
  · intro z; exact pieceC_ok (arg4.view.read (Elt Ideal) (harg4.unread x2)) ![192, 0] (by decide) 6 (by decide) (by decide) z
  · intro z; exact pieceC_ok (arg4.view.read (Elt Ideal) (harg4.unread x2)) ![160, 0] (by decide) 5 (by decide) (by decide) z
  · intro z; exact pieceC_ok (arg4.view.read (Elt Ideal) (harg4.unread x2)) ![128, 0] (by decide) 4 (by decide) (by decide) z
  · intro z; exact pieceC_ok (arg4.view.read (Elt Ideal) (harg4.unread x2)) ![96, 0] (by decide) 3 (by decide) (by decide) z
  · intro z; exact pieceC_ok (arg4.view.read (Elt Ideal) (harg4.unread x2)) ![64, 0] (by decide) 2 (by decide) (by decide) z
  · intro z; exact pieceC_ok (arg4.view.read (Elt Ideal) (harg4.unread x2)) ![32, 0] (by decide) 1 (by decide) (by decide) z
  · intro z; exact pieceC_ok (arg4.view.read (Elt Ideal) (harg4.unread x2)) ![0, 0] (by decide) 0 (by decide) (by decide) z

/-- The block of codes after a grid point at a first block of tokens. -/
theorem outA4 (c : Dev nD) (i : grid0.Coords) (arg2 : Memref sig .tc .vmem S768x2048 .fp8e4m3) (harg2 : arg2.IsWhole) (arg3 : Memref sig .tc .vmem S24x2048 .f32) (harg3 : arg3.IsWhole) (arg4 : Memref sig .tc .vmem S768x1024 .bf16) (harg4 : arg4.IsWhole) (arg5 : Memref sig .tc .vmem S2048x1024 .f32) (harg5 : arg5.IsWhole) (arg6 : Memref sig .tc .vmem S768x1024 .fp8e5m2) (harg6 : arg6.IsWhole) (arg7 : Memref sig .tc .vmem S24x1024 .f32) (harg7 : arg7.IsWhole) (arg8 : Memref sig .tc .vmem S768x2048 .bf16) (harg8 : arg8.IsWhole) (arg9 : Memref sig .tc .vmem S768x1024 .bf16) (harg9 : arg9.IsWhole) (hc0 : cond0_0 i)     (x0 : Vec Ideal S768x2048 .fp8e4m3) (x1 : Vec Ideal S24x2048 .f32) (x2 : Vec Ideal S768x1024 .bf16) :
    out0_A_4 (F := Ideal) c i arg2 harg2 arg3 harg3 arg4 harg4 arg5 harg5 arg6 harg6 arg7 harg7 arg8 harg8 arg9 harg9 hc0 x0 x1 x2 = codeB x2 := by
  unfold out0_A_4
  rw [View.read_writes_eq_canon _ _ _ (cover0_A_4 (F := Ideal) c i arg2 harg2 arg3 harg3 arg4 harg4 arg5 harg5 arg6 harg6 arg7 harg7 arg8 harg8 arg9 harg9 hc0 x0 x1 x2)]
  funext y
  refine (View.canon_apply_of_pieces _ _ (piecesA4 c i arg2 harg2 arg3 harg3 arg4 harg4 arg5 harg5 arg6 harg6 arg7 harg7 arg8 harg8 arg9 harg9 hc0 x0 x1 x2) y (cover0_A_4 (F := Ideal) c i arg2 harg2 arg3 harg3 arg4 harg4 arg5 harg5 arg6 harg6 arg7 harg7 arg8 harg8 arg9 harg9 hc0 x0 x1 x2 y)).trans ?_
  rw [harg4.read_unread]

/-- The stored scales are tiles of the block's scales (at a first block of tokens). -/
theorem piecesA5 (c : Dev nD) (i : grid0.Coords) (arg2 : Memref sig .tc .vmem S768x2048 .fp8e4m3) (harg2 : arg2.IsWhole) (arg3 : Memref sig .tc .vmem S24x2048 .f32) (harg3 : arg3.IsWhole) (arg4 : Memref sig .tc .vmem S768x1024 .bf16) (harg4 : arg4.IsWhole) (arg5 : Memref sig .tc .vmem S2048x1024 .f32) (harg5 : arg5.IsWhole) (arg6 : Memref sig .tc .vmem S768x1024 .fp8e5m2) (harg6 : arg6.IsWhole) (arg7 : Memref sig .tc .vmem S24x1024 .f32) (harg7 : arg7.IsWhole) (arg8 : Memref sig .tc .vmem S768x2048 .bf16) (harg8 : arg8.IsWhole) (arg9 : Memref sig .tc .vmem S768x1024 .bf16) (harg9 : arg9.IsWhole) (hc0 : cond0_0 i)     (x0 : Vec Ideal S768x2048 .fp8e4m3) (x1 : Vec Ideal S24x2048 .f32) (x2 : Vec Ideal S768x1024 .bf16) :
    ∀ p ∈ (kernelRun0_A (F := Ideal) c i arg2 harg2 arg3 harg3 arg4 harg4 arg5 harg5 arg6 harg6 arg7 harg7 arg8 harg8 arg9 harg9 hc0 x0 x1 x2).2.2.1, ∀ z : p.1.shape.Idx, p.2 z = scaleB (arg4.view.read (Elt Ideal) (harg4.unread x2)) (p.1.emb z) := by
  unfold kernelRun0_A
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, fun p hp => absurd hp List.not_mem_nil⟩
  · intro z; exact pieceS_ok (arg4.view.read (Elt Ideal) (harg4.unread x2)) ![736, 0] (by decide) 23 (by decide) ![23, 0] (by decide) (by decide) (by decide) z
  · intro z; exact pieceS_ok (arg4.view.read (Elt Ideal) (harg4.unread x2)) ![704, 0] (by decide) 22 (by decide) ![22, 0] (by decide) (by decide) (by decide) z
  · intro z; exact pieceS_ok (arg4.view.read (Elt Ideal) (harg4.unread x2)) ![672, 0] (by decide) 21 (by decide) ![21, 0] (by decide) (by decide) (by decide) z
  · intro z; exact pieceS_ok (arg4.view.read (Elt Ideal) (harg4.unread x2)) ![640, 0] (by decide) 20 (by decide) ![20, 0] (by decide) (by decide) (by decide) z
  · intro z; exact pieceS_ok (arg4.view.read (Elt Ideal) (harg4.unread x2)) ![608, 0] (by decide) 19 (by decide) ![19, 0] (by decide) (by decide) (by decide) z
  · intro z; exact pieceS_ok (arg4.view.read (Elt Ideal) (harg4.unread x2)) ![576, 0] (by decide) 18 (by decide) ![18, 0] (by decide) (by decide) (by decide) z
  · intro z; exact pieceS_ok (arg4.view.read (Elt Ideal) (harg4.unread x2)) ![544, 0] (by decide) 17 (by decide) ![17, 0] (by decide) (by decide) (by decide) z
  · intro z; exact pieceS_ok (arg4.view.read (Elt Ideal) (harg4.unread x2)) ![512, 0] (by decide) 16 (by decide) ![16, 0] (by decide) (by decide) (by decide) z
  · intro z; exact pieceS_ok (arg4.view.read (Elt Ideal) (harg4.unread x2)) ![480, 0] (by decide) 15 (by decide) ![15, 0] (by decide) (by decide) (by decide) z
  · intro z; exact pieceS_ok (arg4.view.read (Elt Ideal) (harg4.unread x2)) ![448, 0] (by decide) 14 (by decide) ![14, 0] (by decide) (by decide) (by decide) z
  · intro z; exact pieceS_ok (arg4.view.read (Elt Ideal) (harg4.unread x2)) ![416, 0] (by decide) 13 (by decide) ![13, 0] (by decide) (by decide) (by decide) z
  · intro z; exact pieceS_ok (arg4.view.read (Elt Ideal) (harg4.unread x2)) ![384, 0] (by decide) 12 (by decide) ![12, 0] (by decide) (by decide) (by decide) z
  · intro z; exact pieceS_ok (arg4.view.read (Elt Ideal) (harg4.unread x2)) ![352, 0] (by decide) 11 (by decide) ![11, 0] (by decide) (by decide) (by decide) z
  · intro z; exact pieceS_ok (arg4.view.read (Elt Ideal) (harg4.unread x2)) ![320, 0] (by decide) 10 (by decide) ![10, 0] (by decide) (by decide) (by decide) z
  · intro z; exact pieceS_ok (arg4.view.read (Elt Ideal) (harg4.unread x2)) ![288, 0] (by decide) 9 (by decide) ![9, 0] (by decide) (by decide) (by decide) z
  · intro z; exact pieceS_ok (arg4.view.read (Elt Ideal) (harg4.unread x2)) ![256, 0] (by decide) 8 (by decide) ![8, 0] (by decide) (by decide) (by decide) z
  · intro z; exact pieceS_ok (arg4.view.read (Elt Ideal) (harg4.unread x2)) ![224, 0] (by decide) 7 (by decide) ![7, 0] (by decide) (by decide) (by decide) z
  · intro z; exact pieceS_ok (arg4.view.read (Elt Ideal) (harg4.unread x2)) ![192, 0] (by decide) 6 (by decide) ![6, 0] (by decide) (by decide) (by decide) z
  · intro z; exact pieceS_ok (arg4.view.read (Elt Ideal) (harg4.unread x2)) ![160, 0] (by decide) 5 (by decide) ![5, 0] (by decide) (by decide) (by decide) z
  · intro z; exact pieceS_ok (arg4.view.read (Elt Ideal) (harg4.unread x2)) ![128, 0] (by decide) 4 (by decide) ![4, 0] (by decide) (by decide) (by decide) z
  · intro z; exact pieceS_ok (arg4.view.read (Elt Ideal) (harg4.unread x2)) ![96, 0] (by decide) 3 (by decide) ![3, 0] (by decide) (by decide) (by decide) z
  · intro z; exact pieceS_ok (arg4.view.read (Elt Ideal) (harg4.unread x2)) ![64, 0] (by decide) 2 (by decide) ![2, 0] (by decide) (by decide) (by decide) z
  · intro z; exact pieceS_ok (arg4.view.read (Elt Ideal) (harg4.unread x2)) ![32, 0] (by decide) 1 (by decide) ![1, 0] (by decide) (by decide) (by decide) z
  · intro z; exact pieceS_ok (arg4.view.read (Elt Ideal) (harg4.unread x2)) ![0, 0] (by decide) 0 (by decide) ![0, 0] (by decide) (by decide) (by decide) z

/-- The block of scales after a grid point at a first block of tokens. -/
theorem outA5 (c : Dev nD) (i : grid0.Coords) (arg2 : Memref sig .tc .vmem S768x2048 .fp8e4m3) (harg2 : arg2.IsWhole) (arg3 : Memref sig .tc .vmem S24x2048 .f32) (harg3 : arg3.IsWhole) (arg4 : Memref sig .tc .vmem S768x1024 .bf16) (harg4 : arg4.IsWhole) (arg5 : Memref sig .tc .vmem S2048x1024 .f32) (harg5 : arg5.IsWhole) (arg6 : Memref sig .tc .vmem S768x1024 .fp8e5m2) (harg6 : arg6.IsWhole) (arg7 : Memref sig .tc .vmem S24x1024 .f32) (harg7 : arg7.IsWhole) (arg8 : Memref sig .tc .vmem S768x2048 .bf16) (harg8 : arg8.IsWhole) (arg9 : Memref sig .tc .vmem S768x1024 .bf16) (harg9 : arg9.IsWhole) (hc0 : cond0_0 i)     (x0 : Vec Ideal S768x2048 .fp8e4m3) (x1 : Vec Ideal S24x2048 .f32) (x2 : Vec Ideal S768x1024 .bf16) :
    out0_A_5 (F := Ideal) c i arg2 harg2 arg3 harg3 arg4 harg4 arg5 harg5 arg6 harg6 arg7 harg7 arg8 harg8 arg9 harg9 hc0 x0 x1 x2 = scaleB x2 := by
  unfold out0_A_5
  rw [View.read_writes_eq_canon _ _ _ (cover0_A_5 (F := Ideal) c i arg2 harg2 arg3 harg3 arg4 harg4 arg5 harg5 arg6 harg6 arg7 harg7 arg8 harg8 arg9 harg9 hc0 x0 x1 x2)]
  funext y
  refine (View.canon_apply_of_pieces _ _ (piecesA5 c i arg2 harg2 arg3 harg3 arg4 harg4 arg5 harg5 arg6 harg6 arg7 harg7 arg8 harg8 arg9 harg9 hc0 x0 x1 x2) y (cover0_A_5 (F := Ideal) c i arg2 harg2 arg3 harg3 arg4 harg4 arg5 harg5 arg6 harg6 arg7 harg7 arg8 harg8 arg9 harg9 hc0 x0 x1 x2 y)).trans ?_
  rw [harg4.read_unread]

end Cert.DwOutIdeal.Gen

end
-- ==== Proof.DwOut.Array.lean ====
/-
The whole result arrays of the output-side weight-gradient kernel, over the extended reals.
-/
module

public import proofs.«01_k».proof.Proof.DwOut.Spec
public import proofs.«01_k».proof.Proof.DwOut.Out

@[expose] public section

set_option maxHeartbeats 1000000

noncomputable section

namespace Cert.DwOutIdeal.Value

open Idealize.ShloMosaic Idealize.ShloMosaic.TcCoe Idealize.ShloMosaic.Tactic Idealize.SL.Sem
open Cert.DwOutIdeal.Gen

variable (m : (ℓ : Loc nD τ sig) → Buf (Elt Ideal) ℓ)

/-- The block of codes of the first operand a grid point reads. -/
theorem e0 : ∀ t : Fin cfg0.N, win0_0.index t = ![t.val % 10, 0] := (by decide +kernel : ∀ t : Fin grid0.N, _)
/-- The block of scales of the first operand a grid point reads. -/
theorem e1 : ∀ t : Fin cfg0.N, win0_1.index t = ![t.val % 10, 0] := (by decide +kernel : ∀ t : Fin grid0.N, _)
/-- The block of the output gradient a grid point reads. -/
theorem e2 : ∀ t : Fin cfg0.N, win0_2.index t = ![t.val % 10, t.val / 10] := (by decide +kernel : ∀ t : Fin grid0.N, _)
/-- The block of the weight gradient a grid point accumulates. -/
theorem e3 : ∀ t : Fin cfg0.N, win0_3.index t = ![0, t.val / 10] := (by decide +kernel : ∀ t : Fin grid0.N, _)
/-- The block of codes a grid point writes. -/
theorem e4 : ∀ t : Fin cfg0.N, win0_4.index t = ![t.val % 10, t.val / 10] := (by decide +kernel : ∀ t : Fin grid0.N, _)
/-- The block of scales a grid point writes. -/
theorem e5 : ∀ t : Fin cfg0.N, win0_5.index t = ![t.val % 10, t.val / 10] := (by decide +kernel : ∀ t : Fin grid0.N, _)

/-- Columns of block 3 in its array. -/
theorem emb3_1 (t : Fin cfg0.N) (y : ((cfg0.win 3).xblock (cfg0.grid.coords t)).Idx) :
    ((win0_3.blk t).view.emb y 1).val = 1024 * (t.val / 10) + (y 1).val := by
  show win0_3.index t 1 * 1024 + 1 * (y 1).val = _
  rw [e3 t]
  show (t.val / 10) * 1024 + 1 * (y 1).val = _
  omega

/-- Rows of block 4 in its array. -/
theorem emb4_0 (t : Fin cfg0.N) (y : ((cfg0.win 4).xblock (cfg0.grid.coords t)).Idx) :
    ((win0_4.blk t).view.emb y 0).val = 768 * (t.val % 10) + (y 0).val := by
  show win0_4.index t 0 * 768 + 1 * (y 0).val = _
  rw [e4 t]
  show (t.val % 10) * 768 + 1 * (y 0).val = _
  omega

/-- Columns of block 4 in its array. -/
theorem emb4_1 (t : Fin cfg0.N) (y : ((cfg0.win 4).xblock (cfg0.grid.coords t)).Idx) :
    ((win0_4.blk t).view.emb y 1).val = 1024 * (t.val / 10) + (y 1).val := by
  show win0_4.index t 1 * 1024 + 1 * (y 1).val = _
  rw [e4 t]
  show (t.val / 10) * 1024 + 1 * (y 1).val = _
  omega

/-- Rows of block 5 in its array. -/
theorem emb5_0 (t : Fin cfg0.N) (y : ((cfg0.win 5).xblock (cfg0.grid.coords t)).Idx) :
    ((win0_5.blk t).view.emb y 0).val = 24 * (t.val % 10) + (y 0).val := by
  show win0_5.index t 0 * 24 + 1 * (y 0).val = _
  rw [e5 t]
  show (t.val % 10) * 24 + 1 * (y 0).val = _
  omega

/-- Columns of block 5 in its array. -/
theorem emb5_1 (t : Fin cfg0.N) (y : ((cfg0.win 5).xblock (cfg0.grid.coords t)).Idx) :
    ((win0_5.blk t).view.emb y 1).val = 1024 * (t.val / 10) + (y 1).val := by
  show win0_5.index t 1 * 1024 + 1 * (y 1).val = _
  rw [e5 t]
  show (t.val / 10) * 1024 + 1 * (y 1).val = _
  omega

/-- The output gradient's block at a grid point, by row and column of the whole array. -/
theorem blk2 (c : Dev nD) (t : Fin cfg0.N) (k : Fin 768) (l : Fin 1024) (K : Fin 7680) (L : Fin 4096) (hK : K.val = 768 * (t.val % 10) + k.val)
    (hL : L.val = 1024 * (t.val / 10) + l.val) :
    (iblk (F := Ideal) m c 2 t : S768x1024.Idx → EReal) (ix2 k l) = m ((c : Thread nD τ).loc main_arg2) (ix2 K L) := by
  blk_simp [iblk]
  rw [V_main_arg2 m c]
  refine congrArg _ ?_
  blk_ext [e2, hK, hL]

/-- A group's largest absolute value in a block is that of the group in the whole array. -/
theorem gmax_blk (c : Dev nD) (t : Fin cfg0.N) (g : Fin 24) (l : Fin 1024) (G : Fin 240) (L : Fin 4096) (hG : G.val = 24 * (t.val % 10) + g.val)
    (hL : L.val = 1024 * (t.val / 10) + l.val) :
    Cert.Spec.gmax (m := 1024) (n := 24) (iblk (F := Ideal) m c 2 t) g l
      = Cert.Spec.gmax (m := 4096) (n := 240) (m ((c : Thread nD τ).loc main_arg2)) G L := by
  unfold Cert.Spec.gmax
  refine congrArg Cert.Spec.amax (funext fun x => ?_)
  refine blk2 m c t _ l _ L ?_ hL
  show 32 * G.val + x.val = 768 * (t.val % 10) + (32 * g.val + x.val)
  omega

/-- A scale computed from a block is the scale of the whole array. -/
theorem qscale_blk (c : Dev nD) (t : Fin cfg0.N) (g : Fin 24) (l : Fin 1024) (G : Fin 240) (L : Fin 4096) (hG : G.val = 24 * (t.val % 10) + g.val)
    (hL : L.val = 1024 * (t.val / 10) + l.val) :
    Cert.Spec.qscale (m := 1024) (n := 24) (iblk (F := Ideal) m c 2 t) g l
      = Cert.Spec.qscale (m := 4096) (n := 240) (m ((c : Thread nD τ).loc main_arg2)) G L :=
  congrArg Cert.Spec.gscl (gmax_blk m c t g l G L hG hL)

/-- A code computed from a block is the code of the whole array. -/
theorem qcode_blk (c : Dev nD) (t : Fin cfg0.N) (k : Fin 768) (l : Fin 1024) (K : Fin 7680) (L : Fin 4096) (hK : K.val = 768 * (t.val % 10) + k.val)
    (hL : L.val = 1024 * (t.val / 10) + l.val) :
    Cert.Spec.qcode (m := 1024) (n := 24) (iblk (F := Ideal) m c 2 t) k l
      = Cert.Spec.qcode (m := 4096) (n := 240) (m ((c : Thread nD τ).loc main_arg2)) K L := by
  unfold Cert.Spec.qcode
  refine congrArg Cert.Spec.clipQ (congrArg₂ (fun a b : EReal => a * b) (blk2 m c t k l K L hK hL)
    (congrArg Cert.Spec.ginv (gmax_blk m c t _ l _ L ?_ hL)))
  show K.val / 32 = 24 * (t.val % 10) + k.val / 32
  omega

/-- The weight gradient's array after the run is `dwOutF` of the argument arrays. -/
theorem arr3_eq (c : Dev nD) :
    (dats (F := Ideal) m 0 c).arrAt 3 cfg0.N
      = Cert.Spec.dwOutF (m ((c : Thread nD τ).loc main_arg0)) (m ((c : Thread nD τ).loc main_arg1)) (m ((c : Thread nD τ).loc main_arg2)) := by
  refine (dats (F := Ideal) m 0 c).arrAt_eq_of_covers 3 _ (by decide +kernel) fun t hf y => ?_
  blk_simp
  rw [after0_3, Pipeline.eq_sum_fin_of_reset_step_apply_of_flush (fun n h => (outsAt0 (F := Ideal) m c n h).1) 10 (fun _ => (0 : EReal))
    (fun t => prodG (expandR (iblk m c 0 t) (iblk m c 1 t)) (deqB (iblk m c 2 t)))
    (fun t h j => by rw [outsAt0_A m c t h]; dsimp only; rw [outA3])
    (fun t h j => by rw [outsAt0_B m c t h]; dsimp only; rw [outB3]) t ((flush0_3 t).mp hf) y]
  rw [zero_add]
  unfold prodG Cert.Spec.dwOutF
  refine Fin.sum_mul_add_congr fun s k hl => ?_
  generalize hp : (⟨10 * (t.val / 10) + s.val, _⟩ : Fin cfg0.N) = p
  have hp0 : p.val = 10 * (t.val / 10) + s.val := by rw [← hp]
  have hp1 : p.val % 10 = s.val := by omega
  have hp2 : p.val / 10 = t.val / 10 := by omega
  unfold expandR deqB
  refine congrArg₂ (fun a b : EReal => a * b) ?_ (congrArg₂ (fun a b : EReal => a * b) (qcode_blk m c p _ _ _ _ ?_ ?_) (qscale_blk m c p _ _ _ _ ?_ ?_))
  · unfold Cert.Spec.deqR Cert.Spec.grp
    blk_simp [iblk]
    rw [V_main_arg0 m c, V_main_arg1 m c]
    refine congrArg₂ (fun a b : EReal => a * b) (congrArg _ ?_) (congrArg _ ?_)
    · blk_ext [e0, e3, hp1, hp2]
    · blk_ext [e1, e3, hp1, hp2]
  · show s.val * 768 + k.val = 768 * (p.val % 10) + k.val
    omega
  · rw [emb3_1 t y]
    show _ = 1024 * (p.val / 10) + (y 1).val
    rw [hp2]
  · show (s.val * 768 + k.val) / 32 = 24 * (p.val % 10) + k.val / 32
    omega
  · rw [emb3_1 t y]
    show _ = 1024 * (p.val / 10) + (y 1).val
    rw [hp2]

/-- The codes' array after the run is `dycF` of the output gradient. -/
theorem arr4_eq (c : Dev nD) :
    (dats (F := Ideal) m 0 c).arrAt 4 cfg0.N = Cert.Spec.dycF (m ((c : Thread nD τ).loc main_arg2)) := by
  refine (dats (F := Ideal) m 0 c).arrAt_eq_of_covers 4 _ (by decide +kernel) fun t hf y => ?_
  blk_simp
  rw [after0_4]
  have h : (outsAt0 (F := Ideal) m c t.val t.isLt).2.1 = codeB (iblk m c 2 t) := by
    by_cases h0 : t.val % 10 = 0
    · rw [outsAt0_A m c t h0]; dsimp only; rw [outA4]
    · rw [outsAt0_B m c t h0]; dsimp only; rw [outB4]
  rw [h]
  unfold codeB Cert.Spec.dycF
  refine qcode_blk m c t _ _ _ _ ?_ ?_
  · exact emb4_0 t y
  · exact emb4_1 t y

/-- The scales' array after the run is `dycsF` of the output gradient. -/
theorem arr5_eq (c : Dev nD) :
    (dats (F := Ideal) m 0 c).arrAt 5 cfg0.N = Cert.Spec.dycsF (m ((c : Thread nD τ).loc main_arg2)) := by
  refine (dats (F := Ideal) m 0 c).arrAt_eq_of_covers 5 _ (by decide +kernel) fun t hf y => ?_
  blk_simp
  rw [after0_5]
  have h : (outsAt0 (F := Ideal) m c t.val t.isLt).2.2 = scaleB (iblk m c 2 t) := by
    by_cases h0 : t.val % 10 = 0
    · rw [outsAt0_A m c t h0]; dsimp only; rw [outA5]
    · rw [outsAt0_B m c t h0]; dsimp only; rw [outB5]
  rw [h]
  unfold scaleB Cert.Spec.dycsF
  refine qscale_blk m c t _ _ _ _ ?_ ?_
  · exact emb5_0 t y
  · exact emb5_1 t y

end Cert.DwOutIdeal.Value

end
-- ==== Proof.DwOut.RefArray.lean ====
/-
The result arrays of the output-side weight gradient's reference, over the extended reals.
-/
module

public import proofs.«01_k».proof.Proof.DwOut.Spec
public import proofs.«01_k».proof.Proof.Gen.DwOutRefIdeal.Value

@[expose] public section

set_option maxHeartbeats 1000000

noncomputable section

namespace Cert.DwOutRefIdeal.Value

open Idealize.ShloMosaic Idealize.ShloMosaic.TcCoe Idealize.ShloMosaic.Tactic Idealize.SL.Sem
open Cert.DwOutRefIdeal.Gen

/-- The reference's exponent of a largest absolute value, at an index. -/
theorem exp_apply (v4 : FVec Ideal S240x4096 .f32) (g : Fin 240) (l : Fin 4096) :
    (have v5 : FVec Ideal S240x1x4096 .f32 := shapeCast S240x1x4096 v4 shapeCasts_S240x4096_S240x1x4096
     have v6 : FVec Ideal S240x1x4096 .f32 := broadcast S240x1x4096 (Scalar.ofBits .f32 0x00000000#32)
     have v9 : FVec Ideal S240x1x4096 .f32 := mulf v5 (broadcast S240x1x4096 (Scalar.ofBits .f32 0x37924925#32))
     have v12 : FVec Ideal S240x1x4096 .f32 := broadcast S240x1x4096 (Scalar.log (Scalar.ofBits .f32 0x40000000#32))
     have v16 : FVec Ideal S240x1x4096 .f32 := addf (floor (divf (log v9) v12)) (broadcast S240x1x4096 (Scalar.ofBits .f32 0x3F800000#32))
     select (cmpf .oeq v5 v6) (broadcast S240x1x4096 (Scalar.ofBits .f32 0x00000000#32)) v16 : FVec Ideal S240x1x4096 .f32) (ix3 g (0 : Fin 1) l)
    = Cert.Spec.gexp (v4 (ix2 g l)) := by
  unfold Cert.Spec.gexp Cert.Spec.flog
  pointwise []
  rfl

/-- The largest entries along the middle axis of a three-dimensional array. -/
theorem max3 {p q r : ℕ} (h : (⟨3, ![p, q, r]⟩ : Shape).Reduces [(1 : Fin 3)] ⟨2, ![p, r]⟩) (hφ : FKind.Formats .f32)
    (hacc : 0xFF800000#32 = FKind.maximumf.neutral .f32 hφ) (v : FVec Ideal (⟨3, ![p, q, r]⟩ : Shape) .f32) (g : Fin p) (l : Fin r) :
    (multiReduction .maximumf [(1 : Fin 3)] ⟨2, ![p, r]⟩ v 0xFF800000#32 h hφ hacc : FVec Ideal ⟨2, ![p, r]⟩ .f32) (ix2 g l)
      = Finset.fold max (Ideal.ofBits .f32 4286578688#32) (fun x : Fin q => v (ix3 g x l)) Finset.univ := by
  refine (Ideal.multiReduction_maximumf_single (s := ⟨3, ![p, q, r]⟩) (a := (1 : Fin 3)) v _ h hφ hacc _).trans ?_
  refine congrArg (fun f : Fin q → EReal => Finset.fold max (Ideal.ofBits .f32 4286578688#32) f Finset.univ) (funext fun x => congrArg v ?_)
  funext b
  match b with
  | ⟨0, _⟩ => rfl
  | ⟨1, _⟩ => rfl
  | ⟨2, _⟩ => rfl

/-- A group of the output gradient as the reference reads it. -/
theorem pay2_apply (a2 : Vec Ideal S7680x4096 .bf16) (g : Fin 240) (x : Fin 32) (l : Fin 4096) :
    k0_pay2 (F := Ideal) a2 (ix3 g x l) = a2 (ix2 (⟨32 * g.val + x.val, by have := g.isLt; have := x.isLt; omega⟩ : Fin 7680) l) := by
  pointwise [k0_pay2]
  exact congrArg (fun k : Fin 7680 => a2 (ix2 k l)) (Fin.ext (by show g.val * 32 + x.val = 32 * g.val + x.val; omega))

/-- The largest absolute value of a group, as the reference reads it. -/
theorem max_apply (v : FVec Ideal S240x32x4096 .f32) (g : Fin 240) (l : Fin 4096) :
    (multiReduction .maximumf [1] S240x4096 v 0xFF800000#32 reduces_S240x32x4096_S240x4096 (.inl rfl) rfl : FVec Ideal S240x4096 .f32) (ix2 g l)
      = Finset.fold max (Ideal.ofBits .f32 4286578688#32) (fun x : Fin 32 => v (ix3 g x l)) Finset.univ :=
  max3 (p := 240) (q := 32) (r := 4096) reduces_S240x32x4096_S240x4096 (.inl rfl) rfl v g l

/-- The reference's exponents, at an index. -/
theorem pay3_apply (a2 : Vec Ideal S7680x4096 .bf16) (g : Fin 240) (l : Fin 4096) :
    k0_pay3 (F := Ideal) a2 (ix3 g (0 : Fin 1) l) = Cert.Spec.gexp (Cert.Spec.gmax (m := 4096) (n := 240) a2 g l) := by
  refine (exp_apply _ g l).trans (congrArg Cert.Spec.gexp ?_)
  refine (max_apply _ g l).trans ?_
  unfold Cert.Spec.gmax Cert.Spec.amax
  refine congrArg (fun f : Fin 32 → EReal => Finset.fold max (Ideal.ofBits .f32 4286578688#32) f Finset.univ) (funext fun x => ?_)
  exact congrArg (fun t : EReal => max t (-t)) (pay2_apply a2 g x l)

/-- The reference's scales from its exponents, at an index. -/
theorem exp2_apply' (e : FVec Ideal S240x1x4096 .f32) (g : Fin 240) (l : Fin 4096) :
    (shapeCast S240x4096 (exp2 e) shapeCasts_S240x1x4096_S240x4096 : FVec Ideal S240x4096 .f32) (ix2 g l) = Ideal.exp2 (e (ix3 g (0 : Fin 1) l)) := by
  pointwise []
  rfl

/-- The reference's scales. -/
theorem pay4_eq (a2 : Vec Ideal S7680x4096 .bf16) : k0_pay4 (F := Ideal) a2 = Cert.Spec.dycsF a2 := by
  funext y
  obtain ⟨g, l, rfl⟩ : ∃ (g : Fin 240) (l : Fin 4096), y = ix2 g l := ⟨y 0, y 1, eq_ix2 y⟩
  unfold Cert.Spec.dycsF Cert.Spec.qscale Cert.Spec.gscl
  refine (exp2_apply' _ g l).trans ?_
  exact congrArg Ideal.exp2 (pay3_apply a2 g l)

/-- The reference's codes from the values and the exponents, at an index. -/
theorem codes_apply (x : FVec Ideal S240x32x4096 .f32) (e : FVec Ideal S240x1x4096 .f32) (k : Fin 7680) (l : Fin 4096) :
    (have v22 : FVec Ideal S240x1x4096 .f32 := subf (broadcast S240x1x4096 (Scalar.ofBits .f32 0x00000000#32)) e
     have v25 : FVec Ideal S240x32x4096 .f32 := mulf x (broadcastTo S240x32x4096 (exp2 v22) broadcasts_S240x1x4096_S240x32x4096)
     have v27 : FVec Ideal S240x32x4096 .f32 := maximumf (broadcast S240x32x4096 (Scalar.ofBits .f32 0xC7600000#32)) v25
     have v29 : FVec Ideal S240x32x4096 .f32 := minimumf (broadcast S240x32x4096 (Scalar.ofBits .f32 0x47600000#32)) v27
     shapeCast S7680x4096 (truncf .fp8e5m2 v29 bitsLt_fp8e5m2_f32) shapeCasts_S240x32x4096_S7680x4096 : FVec Ideal S7680x4096 .fp8e5m2) (ix2 k l)
    = Cert.Spec.clipQ (x (ix3 (⟨k.val / 32, by have := k.isLt; omega⟩ : Fin 240) (⟨k.val % 32, by omega⟩ : Fin 32) l)
        * Ideal.exp2 (0 - e (ix3 (⟨k.val / 32, by have := k.isLt; omega⟩ : Fin 240) (0 : Fin 1) l))) := by
  unfold Cert.Spec.clipQ
  pointwise []
  rfl

/-- The reference's codes. -/
theorem pay5_eq (a2 : Vec Ideal S7680x4096 .bf16) : k0_pay5 (F := Ideal) a2 = Cert.Spec.dycF a2 := by
  funext y
  obtain ⟨k, l, rfl⟩ : ∃ (k : Fin 7680) (l : Fin 4096), y = ix2 k l := ⟨y 0, y 1, eq_ix2 y⟩
  unfold Cert.Spec.dycF Cert.Spec.qcode Cert.Spec.ginv Cert.Spec.grp
  refine (codes_apply _ _ k l).trans ?_
  refine congrArg Cert.Spec.clipQ (congrArg₂ (fun a b : EReal => a * b) ((pay2_apply a2 _ _ l).trans (congrArg (fun k : Fin 7680 => a2 (ix2 k l)) (Fin.ext ?_)))
    (congrArg (fun t : EReal => Ideal.exp2 (0 - t)) (pay3_apply a2 _ l)))
  show 32 * (k.val / 32) + k.val % 32 = k.val
  omega

/-- The reference's weight gradient of given codes and scales. -/
theorem pay1_apply (s : FVec Ideal S240x4096 .f32) (q : FVec Ideal S7680x4096 .fp8e5m2) (a0 : FVec Ideal S7680x2048 .fp8e4m3) (a1 : FVec Ideal S240x2048 .f32) (r : Fin 2048) (l : Fin 4096) :
    k0_pay1 (F := Ideal) s q (k0_pay6 a0) (k0_pay7 a1) (ix2 r l) = ∑ t : Fin 7680, Cert.Spec.deqR (m := 2048) (n := 240) a0 a1 t r
      * (q (ix2 t l) * s (ix2 (Cert.Spec.grp (n := 240) t) l)) := by
  unfold Cert.Spec.deqR Cert.Spec.grp
  pointwise [k0_pay1, k0_pay6, k0_pay7]

/-- The reference's weight gradient. -/
theorem pay1_eq (a0 : Vec Ideal S7680x2048 .fp8e4m3) (a1 : Vec Ideal S240x2048 .f32) (a2 : Vec Ideal S7680x4096 .bf16) :
    k0_pay1 (F := Ideal) (k0_pay4 a2) (k0_pay5 a2) (k0_pay6 a0) (k0_pay7 a1) = Cert.Spec.dwOutF a0 a1 a2 := by
  rw [pay4_eq, pay5_eq]
  funext y
  obtain ⟨r, l, rfl⟩ : ∃ (r : Fin 2048) (l : Fin 4096), y = ix2 r l := ⟨y 0, y 1, eq_ix2 y⟩
  exact pay1_apply _ _ a0 a1 r l

end Cert.DwOutRefIdeal.Value

end
-- ==== Proof.DwOut.Algebraic.lean ====
/-
The output-side weight-gradient kernel and its reference leave the same result arrays, over the extended reals.
-/
module

public import proofs.«01_k».proof.Defs
public import proofs.«01_k».proof.Proof.DwOut.Array
public import proofs.«01_k».proof.Proof.DwOut.RefArray

@[expose] public section

set_option maxHeartbeats 1000000

noncomputable section

namespace Cert.Proof

open Idealize.ShloMosaic Idealize.SL.Sem

/-- From the same arguments, the output-side weight-gradient kernel and its reference both run safely and leave the same three
    result arrays: the weight gradient, the codes and the scales. -/
theorem dwOut_algebraic : Cert.algebraic_DwOutIdeal_DwOutRefIdeal (hDwOutIdeal := Cert.DwOutIdeal.Gen.facts)
    (hDwOutRefIdeal := Cert.DwOutRefIdeal.Gen.facts) := by
  intro m g m' g' _ hm
  refine ⟨fun c => (Cert.DwOutIdeal.Gen.dats (F := Ideal) m 0 c).arrAt 3 Cert.DwOutIdeal.cfg0.N,
    fun c => (Cert.DwOutIdeal.Gen.dats (F := Ideal) m 0 c).arrAt 4 Cert.DwOutIdeal.cfg0.N,
    fun c => (Cert.DwOutIdeal.Gen.dats (F := Ideal) m 0 c).arrAt 5 Cert.DwOutIdeal.cfg0.N, ?_, ?_⟩
  · exact (θ_run _ _ _).mono (fun r h c => h c) (Cert.DwOutIdeal.Value.run_blocks (F := Ideal) m g)
  · refine (θ_run _ _ _).mono (fun r h c => ⟨?_, ?_, ?_, (h c).2.2.2⟩) (Cert.DwOutRefIdeal.Value.run (F := Ideal) m' g')
    · refine (h c).1.trans ?_
      obtain ⟨h0, h1, h2⟩ := hm c
      refine (Cert.DwOutRefIdeal.Value.pay1_eq _ _ _).trans (Eq.trans ?_ (Cert.DwOutIdeal.Value.arr3_eq m c).symm)
      rw [h0, h1, h2]
    · refine (h c).2.1.trans ?_
      obtain ⟨h0, h1, h2⟩ := hm c
      refine (Cert.DwOutRefIdeal.Value.pay5_eq _).trans (Eq.trans ?_ (Cert.DwOutIdeal.Value.arr4_eq m c).symm)
      rw [h2]
    · refine (h c).2.2.1.trans ?_
      obtain ⟨h0, h1, h2⟩ := hm c
      refine (Cert.DwOutRefIdeal.Value.pay4_eq _).trans (Eq.trans ?_ (Cert.DwOutIdeal.Value.arr5_eq m c).symm)
      rw [h2]

end Cert.Proof

end
-- ==== Proof.lean ====
/-
The claims of `Cert.Claim`: the runs (frames), the idealisation and the equality with the reference of the
input-gradient kernel and of the two weight-gradient kernels.
-/
module

public import proofs.«01_k».proof.Defs
public import proofs.«01_k».proof.Proof.Gen.DwIn.Frame
public import proofs.«01_k».proof.Proof.Gen.DwInIdeal.Value
public import proofs.«01_k».proof.Proof.Gen.DwInRefIdeal.Value
public import proofs.«01_k».proof.Proof.Gen.DwOut.Frame
public import proofs.«01_k».proof.Proof.Gen.DwOutIdeal.Value
public import proofs.«01_k».proof.Proof.Gen.DwOutRefIdeal.Value
public import proofs.«01_k».proof.Proof.DxBits.Frame
public import proofs.«01_k».proof.Proof.Gen.DxRefIdeal.Value
public import proofs.«01_k».proof.Proof.DwIn.Algebraic
public import proofs.«01_k».proof.Proof.Dx.Algebraic
public import proofs.«01_k».proof.Proof.DwOut.Algebraic
public import Idealize.ShloMosaic.Adequacy
public import Idealize.ShloMosaic.Init

@[expose] public section

noncomputable section

namespace Cert.Proof

open Idealize.ShloMosaic Idealize.SL.Sem

/-- Every claim of `Cert.Claim` holds. -/
theorem claim : Cert.Claim :=
  ⟨Cert.DwOut.Gen.facts, Cert.DwOutIdeal.Gen.facts, Cert.DwOutRefIdeal.Gen.facts,
    Cert.DwIn.Gen.facts, Cert.DwInIdeal.Gen.facts, Cert.DwInRefIdeal.Gen.facts, Cert.Dx.Gen.facts, Cert.DxIdeal.Gen.facts, Cert.DxRefIdeal.Gen.facts,
    fun m ρ _ => Cert.DwOut.Gen.frame m ρ, fun m ρ _ => Cert.DwOutIdeal.Gen.frame m ρ, fun m ρ _ => Cert.DwOutRefIdeal.Gen.frame m ρ,
    fun m ρ _ => Cert.DwIn.Gen.frame m ρ, fun m ρ _ => Cert.DwInIdeal.Gen.frame m ρ, fun m ρ _ => Cert.DwInRefIdeal.Gen.frame m ρ,
    fun m ρ _ => Cert.Dx.Gen.frame m ρ, fun m ρ _ => Cert.DxIdeal.Gen.frame m ρ, fun m ρ _ => Cert.DxRefIdeal.Gen.frame m ρ,
    trivial, dwOut_algebraic, trivial, dwIn_algebraic, trivial, dx_algebraic⟩

end Cert.Proof

end
